-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x384x32x32 : Shape := ⟨4, ![4, 384, 32, 32]⟩
abbrev S384 : Shape := ⟨1, ![384]⟩
abbrev S384x384 : Shape := ⟨2, ![384, 384]⟩
abbrev S1536x384 : Shape := ⟨2, ![1536, 384]⟩
abbrev S1536 : Shape := ⟨1, ![1536]⟩
abbrev S1536x1x3x3 : Shape := ⟨4, ![1536, 1, 3, 3]⟩
abbrev S384x1536 : Shape := ⟨2, ![384, 1536]⟩
abbrev S_ : Shape := ⟨0, ![]⟩
abbrev S1x384x1x1 : Shape := ⟨4, ![1, 384, 1, 1]⟩
abbrev S384x4x32x32 : Shape := ⟨4, ![384, 4, 32, 32]⟩
abbrev S4x6x64x1024 : Shape := ⟨4, ![4, 6, 64, 1024]⟩
abbrev S4x1024x6x64 : Shape := ⟨4, ![4, 1024, 6, 64]⟩
abbrev S4x6x1024x1024 : Shape := ⟨4, ![4, 6, 1024, 1024]⟩
abbrev S4x1024x1024x6 : Shape := ⟨4, ![4, 1024, 1024, 6]⟩

class Facts : Prop where
  bcast_S_S4x384x32x32 : S_.BroadcastsInDim S4x384x32x32 (![] : Fin 0 → Fin S4x384x32x32.rank)
  bcast_S_S384 : S_.BroadcastsInDim S384 (![] : Fin 0 → Fin S384.rank)
  bcast_S_S384x384 : S_.BroadcastsInDim S384x384 (![] : Fin 0 → Fin S384x384.rank)
  bcast_S_S1536x384 : S_.BroadcastsInDim S1536x384 (![] : Fin 0 → Fin S1536x384.rank)
  bcast_S_S1536 : S_.BroadcastsInDim S1536 (![] : Fin 0 → Fin S1536.rank)
  bcast_S_S1536x1x3x3 : S_.BroadcastsInDim S1536x1x3x3 (![] : Fin 0 → Fin S1536x1x3x3.rank)
  bcast_S_S384x1536 : S_.BroadcastsInDim S384x1536 (![] : Fin 0 → Fin S384x1536.rank)
  shapeCasts_S384_S1x384x1x1 : S384.ShapeCasts S1x384x1x1
  bcast_S1x384x1x1_S4x384x32x32_0_1_2_3 : S1x384x1x1.BroadcastsInDim S4x384x32x32 (![0, 1, 2, 3] : Fin 4 → Fin S4x384x32x32.rank)
  transposes_S384x4x32x32_S4x384x32x32_1_0_2_3 : S384x4x32x32.Transposes [1, 0, 2, 3] S4x384x32x32
  shapeCasts_S4x384x32x32_S4x6x64x1024 : S4x384x32x32.ShapeCasts S4x6x64x1024
  transposes_S4x6x64x1024_S4x1024x6x64_0_3_1_2 : S4x6x64x1024.Transposes [0, 3, 1, 2] S4x1024x6x64
  transposes_S4x6x1024x1024_S4x1024x1024x6_0_3_2_1 : S4x6x1024x1024.Transposes [0, 3, 2, 1] S4x1024x1024x6
  bcast_S_S4x1024x1024x6 : S_.BroadcastsInDim S4x1024x1024x6 (![] : Fin 0 → Fin S4x1024x1024x6.rank)
  dot_S384x384_S4x384x32x32_S384x4x32x32_1_1_0_023_n_n_wf : DotDims.WF S384x384 S4x384x32x32 S384x4x32x32 [1] [1] [0] [0, 2, 3] [] []
  dot_S4x1024x6x64_S4x1024x6x64_S4x6x1024x1024_3_3_1_1_02_02_wf : DotDims.WF S4x1024x6x64 S4x1024x6x64 S4x6x1024x1024 [3] [3] [1] [1] [0, 2] [0, 2]

variable [Facts]

def dot_S384x384_S4x384x32x32_S384x4x32x32_1_1_0_023_n_n : DotDims S384x384 S4x384x32x32 S384x4x32x32 where
  lhsContracting := [1]
  rhsContracting := [1]
  lhsNonContracting := [0]
  rhsNonContracting := [0, 2, 3]
  lhsBatch := []
  rhsBatch := []
  wf := dot_S384x384_S4x384x32x32_S384x4x32x32_1_1_0_023_n_n_wf
def dot_S4x1024x6x64_S4x1024x6x64_S4x6x1024x1024_3_3_1_1_02_02 : DotDims S4x1024x6x64 S4x1024x6x64 S4x6x1024x1024 where
  lhsContracting := [3]
  rhsContracting := [3]
  lhsNonContracting := [1]
  rhsNonContracting := [1]
  lhsBatch := [0, 2]
  rhsBatch := [0, 2]
  wf := dot_S4x1024x6x64_S4x1024x6x64_S4x6x1024x1024_3_3_1_1_02_02_wf
def fn_part4 {F : FTy → Type} [FloatOps F] (main_v2 : IVec S4x384x32x32 1) (main_v5 : IVec S384 1) (main_v8 : IVec S384 1) (main_v11 : IVec S384x384 1) (main_v14 : IVec S384x384 1) (main_v17 : IVec S384x384 1) (main_v20 : IVec S384x384 1) (main_v23 : IVec S384 1) (main_v26 : IVec S1536x384 1) (main_v29 : IVec S1536 1) (main_v32 : IVec S1536 1) (main_v35 : IVec S1536x1x3x3 1) (main_v38 : IVec S1536 1) (main_v41 : IVec S1536 1) (main_v44 : IVec S384x1536 1) (main_v47 : IVec S384 1) (main_v74 : FVec F S4x1024x1024x6 .f32) (main_v75 : FVec F S4x1024x1024x6 .f32) : IVec S4x1024x1024x6 1 × IVec S4x384x32x32 1 × IVec S384 1 × IVec S384 1 × IVec S384x384 1 × IVec S384x384 1 × IVec S384x384 1 × IVec S384x384 1 × IVec S384 1 × IVec S1536x384 1 × IVec S1536 1 × IVec S1536 1 × IVec S1536x1x3x3 1 × IVec S1536 1 × IVec S1536 1 × IVec S384x1536 1 × IVec S384 1 :=
  let main_v76 : FVec F S4x1024x1024x6 .f32 := mulf main_v75 main_v74
  let main_cst_19 : FVec F S_ .f32 := constant S_ .f32 0x42200000#32
  let main_v77 : FVec F S4x1024x1024x6 .f32 := broadcastInDim S4x1024x1024x6 ![] bcast_S_S4x1024x1024x6 main_cst_19
  let main_v78 : IVec S4x1024x1024x6 1 := cmpf .ole main_v76 main_v77
  (main_v78, main_v2, main_v5, main_v8, main_v11, main_v14, main_v17, main_v20, main_v23, main_v26, main_v29, main_v32, main_v35, main_v38, main_v41, main_v44, main_v47)

def fn_part3 {F : FTy → Type} [FloatOps F] (main_arg3 : FVec F S384x384 .f32) (main_arg4 : FVec F S384x384 .f32) (main_v2 : IVec S4x384x32x32 1) (main_v5 : IVec S384 1) (main_v8 : IVec S384 1) (main_v11 : IVec S384x384 1) (main_v14 : IVec S384x384 1) (main_v17 : IVec S384x384 1) (main_v20 : IVec S384x384 1) (main_v23 : IVec S384 1) (main_v26 : IVec S1536x384 1) (main_v29 : IVec S1536 1) (main_v32 : IVec S1536 1) (main_v35 : IVec S1536x1x3x3 1) (main_v38 : IVec S1536 1) (main_v41 : IVec S1536 1) (main_v44 : IVec S384x1536 1) (main_v47 : IVec S384 1) (main_v49 : FVec F S1x384x1x1 .f32) (main_v51 : FVec F S4x384x32x32 .f32) (main_v54 : FVec F S4x384x32x32 .f32) : IVec S4x1024x1024x6 1 × IVec S4x384x32x32 1 × IVec S384 1 × IVec S384 1 × IVec S384x384 1 × IVec S384x384 1 × IVec S384x384 1 × IVec S384x384 1 × IVec S384 1 × IVec S1536x384 1 × IVec S1536 1 × IVec S1536 1 × IVec S1536x1x3x3 1 × IVec S1536 1 × IVec S1536 1 × IVec S384x1536 1 × IVec S384 1 :=
  let main_v55 : FVec F S4x384x32x32 .f32 := Host.divf main_v51 main_v54
  let main_v56 : FVec F S4x384x32x32 .f32 := broadcastInDim S4x384x32x32 ![0, 1, 2, 3] bcast_S1x384x1x1_S4x384x32x32_0_1_2_3 main_v49
  let main_v57 : FVec F S4x384x32x32 .f32 := addf main_v55 main_v56
  let main_cst_16 : FVec F S_ .f32 := constant S_ .f32 0x3F000000#32
  let main_v58 : FVec F S4x384x32x32 .f32 := broadcastInDim S4x384x32x32 ![] bcast_S_S4x384x32x32 main_cst_16
  let main_v59 : FVec F S4x384x32x32 .f32 := mulf main_v58 main_v57
  let main_v60 : FVec F S4x384x32x32 .f32 := Host.negf main_v57
  let main_cst_17 : FVec F S_ .f32 := constant S_ .f32 0x3F3504F3#32
  let main_v61 : FVec F S4x384x32x32 .f32 := broadcastInDim S4x384x32x32 ![] bcast_S_S4x384x32x32 main_cst_17
  let main_v62 : FVec F S4x384x32x32 .f32 := mulf main_v60 main_v61
  let main_v63 : FVec F S4x384x32x32 .f32 := Host.erfc main_v62
  let main_v64 : FVec F S4x384x32x32 .f32 := mulf main_v59 main_v63
  let main_v65 : FVec F S384x4x32x32 .f32 := (fun l r => Host.dotGeneral dot_S384x384_S4x384x32x32_S384x4x32x32_1_1_0_023_n_n none l r) main_arg3 main_v64
  let main_v66 : FVec F S4x384x32x32 .f32 := (transpose S4x384x32x32 [1, 0, 2, 3] · transposes_S384x4x32x32_S4x384x32x32_1_0_2_3) main_v65
  let main_v67 : FVec F S384x4x32x32 .f32 := (fun l r => Host.dotGeneral dot_S384x384_S4x384x32x32_S384x4x32x32_1_1_0_023_n_n none l r) main_arg4 main_v64
  let main_v68 : FVec F S4x384x32x32 .f32 := (transpose S4x384x32x32 [1, 0, 2, 3] · transposes_S384x4x32x32_S4x384x32x32_1_0_2_3) main_v67
  let main_v69 : FVec F S4x6x64x1024 .f32 := shapeCast S4x6x64x1024 main_v66 shapeCasts_S4x384x32x32_S4x6x64x1024
  let main_v70 : FVec F S4x1024x6x64 .f32 := (transpose S4x1024x6x64 [0, 3, 1, 2] · transposes_S4x6x64x1024_S4x1024x6x64_0_3_1_2) main_v69
  let main_v71 : FVec F S4x6x64x1024 .f32 := shapeCast S4x6x64x1024 main_v68 shapeCasts_S4x384x32x32_S4x6x64x1024
  let main_v72 : FVec F S4x1024x6x64 .f32 := (transpose S4x1024x6x64 [0, 3, 1, 2] · transposes_S4x6x64x1024_S4x1024x6x64_0_3_1_2) main_v71
  let main_v73 : FVec F S4x6x1024x1024 .f32 := (fun l r => Host.dotGeneral dot_S4x1024x6x64_S4x1024x6x64_S4x6x1024x1024_3_3_1_1_02_02 none l r) main_v72 main_v70
  let main_v74 : FVec F S4x1024x1024x6 .f32 := (transpose S4x1024x1024x6 [0, 3, 2, 1] · transposes_S4x6x1024x1024_S4x1024x1024x6_0_3_2_1) main_v73
  let main_cst_18 : FVec F S_ .f32 := constant S_ .f32 0x3E000000#32
  let main_v75 : FVec F S4x1024x1024x6 .f32 := broadcastInDim S4x1024x1024x6 ![] bcast_S_S4x1024x1024x6 main_cst_18
  fn_part4 (F := F) main_v2 main_v5 main_v8 main_v11 main_v14 main_v17 main_v20 main_v23 main_v26 main_v29 main_v32 main_v35 main_v38 main_v41 main_v44 main_v47 main_v74 main_v75

def fn_part2 {F : FTy → Type} [FloatOps F] (main_arg0 : FVec F S4x384x32x32 .f32) (main_arg1 : FVec F S384 .f32) (main_arg2 : FVec F S384 .f32) (main_arg3 : FVec F S384x384 .f32) (main_arg4 : FVec F S384x384 .f32) (main_arg12 : FVec F S1536 .f32) (main_arg13 : FVec F S1536 .f32) (main_arg14 : FVec F S384x1536 .f32) (main_arg15 : FVec F S384 .f32) (main_v2 : IVec S4x384x32x32 1) (main_v5 : IVec S384 1) (main_v8 : IVec S384 1) (main_v11 : IVec S384x384 1) (main_v14 : IVec S384x384 1) (main_v17 : IVec S384x384 1) (main_v20 : IVec S384x384 1) (main_v23 : IVec S384 1) (main_v26 : IVec S1536x384 1) (main_v29 : IVec S1536 1) (main_v32 : IVec S1536 1) (main_v35 : IVec S1536x1x3x3 1) : IVec S4x1024x1024x6 1 × IVec S4x384x32x32 1 × IVec S384 1 × IVec S384 1 × IVec S384x384 1 × IVec S384x384 1 × IVec S384x384 1 × IVec S384x384 1 × IVec S384 1 × IVec S1536x384 1 × IVec S1536 1 × IVec S1536 1 × IVec S1536x1x3x3 1 × IVec S1536 1 × IVec S1536 1 × IVec S384x1536 1 × IVec S384 1 :=
  let main_v36 : FVec F S1536 .f32 := Host.absf main_arg12
  let main_cst_11 : FVec F S_ .f32 := constant S_ .f32 0x7F800000#32
  let main_v37 : FVec F S1536 .f32 := broadcastInDim S1536 ![] bcast_S_S1536 main_cst_11
  let main_v38 : IVec S1536 1 := cmpf .olt main_v36 main_v37
  let main_v39 : FVec F S1536 .f32 := Host.absf main_arg13
  let main_cst_12 : FVec F S_ .f32 := constant S_ .f32 0x7F800000#32
  let main_v40 : FVec F S1536 .f32 := broadcastInDim S1536 ![] bcast_S_S1536 main_cst_12
  let main_v41 : IVec S1536 1 := cmpf .olt main_v39 main_v40
  let main_v42 : FVec F S384x1536 .f32 := Host.absf main_arg14
  let main_cst_13 : FVec F S_ .f32 := constant S_ .f32 0x7F800000#32
  let main_v43 : FVec F S384x1536 .f32 := broadcastInDim S384x1536 ![] bcast_S_S384x1536 main_cst_13
  let main_v44 : IVec S384x1536 1 := cmpf .olt main_v42 main_v43
  let main_v45 : FVec F S384 .f32 := Host.absf main_arg15
  let main_cst_14 : FVec F S_ .f32 := constant S_ .f32 0x7F800000#32
  let main_v46 : FVec F S384 .f32 := broadcastInDim S384 ![] bcast_S_S384 main_cst_14
  let main_v47 : IVec S384 1 := cmpf .olt main_v45 main_v46
  let main_v48 : FVec F S1x384x1x1 .f32 := shapeCast S1x384x1x1 main_arg1 shapeCasts_S384_S1x384x1x1
  let main_v49 : FVec F S1x384x1x1 .f32 := shapeCast S1x384x1x1 main_arg2 shapeCasts_S384_S1x384x1x1
  let main_v50 : FVec F S4x384x32x32 .f32 := broadcastInDim S4x384x32x32 ![0, 1, 2, 3] bcast_S1x384x1x1_S4x384x32x32_0_1_2_3 main_v48
  let main_v51 : FVec F S4x384x32x32 .f32 := mulf main_v50 main_arg0
  let main_cst_15 : FVec F S_ .f32 := constant S_ .f32 0x3F800054#32
  let main_v52 : FVec F S_ .f32 := Host.sqrt main_cst_15
  let main_v53 : FVec F S_ .f32 := id main_v52
  let main_v54 : FVec F S4x384x32x32 .f32 := broadcastInDim S4x384x32x32 ![] bcast_S_S4x384x32x32 main_v53
  fn_part3 (F := F) main_arg3 main_arg4 main_v2 main_v5 main_v8 main_v11 main_v14 main_v17 main_v20 main_v23 main_v26 main_v29 main_v32 main_v35 main_v38 main_v41 main_v44 main_v47 main_v49 main_v51 main_v54

def fn_part1 {F : FTy → Type} [FloatOps F] (main_arg0 : FVec F S4x384x32x32 .f32) (main_arg1 : FVec F S384 .f32) (main_arg2 : FVec F S384 .f32) (main_arg3 : FVec F S384x384 .f32) (main_arg4 : FVec F S384x384 .f32) (main_arg6 : FVec F S384x384 .f32) (main_arg7 : FVec F S384 .f32) (main_arg8 : FVec F S1536x384 .f32) (main_arg9 : FVec F S1536 .f32) (main_arg10 : FVec F S1536 .f32) (main_arg11 : FVec F S1536x1x3x3 .f32) (main_arg12 : FVec F S1536 .f32) (main_arg13 : FVec F S1536 .f32) (main_arg14 : FVec F S384x1536 .f32) (main_arg15 : FVec F S384 .f32) (main_v2 : IVec S4x384x32x32 1) (main_v5 : IVec S384 1) (main_v8 : IVec S384 1) (main_v11 : IVec S384x384 1) (main_v14 : IVec S384x384 1) (main_v17 : IVec S384x384 1) : IVec S4x1024x1024x6 1 × IVec S4x384x32x32 1 × IVec S384 1 × IVec S384 1 × IVec S384x384 1 × IVec S384x384 1 × IVec S384x384 1 × IVec S384x384 1 × IVec S384 1 × IVec S1536x384 1 × IVec S1536 1 × IVec S1536 1 × IVec S1536x1x3x3 1 × IVec S1536 1 × IVec S1536 1 × IVec S384x1536 1 × IVec S384 1 :=
  let main_v18 : FVec F S384x384 .f32 := Host.absf main_arg6
  let main_cst_5 : FVec F S_ .f32 := constant S_ .f32 0x7F800000#32
  let main_v19 : FVec F S384x384 .f32 := broadcastInDim S384x384 ![] bcast_S_S384x384 main_cst_5
  let main_v20 : IVec S384x384 1 := cmpf .olt main_v18 main_v19
  let main_v21 : FVec F S384 .f32 := Host.absf main_arg7
  let main_cst_6 : FVec F S_ .f32 := constant S_ .f32 0x7F800000#32
  let main_v22 : FVec F S384 .f32 := broadcastInDim S384 ![] bcast_S_S384 main_cst_6
  let main_v23 : IVec S384 1 := cmpf .olt main_v21 main_v22
  let main_v24 : FVec F S1536x384 .f32 := Host.absf main_arg8
  let main_cst_7 : FVec F S_ .f32 := constant S_ .f32 0x7F800000#32
  let main_v25 : FVec F S1536x384 .f32 := broadcastInDim S1536x384 ![] bcast_S_S1536x384 main_cst_7
  let main_v26 : IVec S1536x384 1 := cmpf .olt main_v24 main_v25
  let main_v27 : FVec F S1536 .f32 := Host.absf main_arg9
  let main_cst_8 : FVec F S_ .f32 := constant S_ .f32 0x7F800000#32
  let main_v28 : FVec F S1536 .f32 := broadcastInDim S1536 ![] bcast_S_S1536 main_cst_8
  let main_v29 : IVec S1536 1 := cmpf .olt main_v27 main_v28
  let main_v30 : FVec F S1536 .f32 := Host.absf main_arg10
  let main_cst_9 : FVec F S_ .f32 := constant S_ .f32 0x7F800000#32
  let main_v31 : FVec F S1536 .f32 := broadcastInDim S1536 ![] bcast_S_S1536 main_cst_9
  let main_v32 : IVec S1536 1 := cmpf .olt main_v30 main_v31
  let main_v33 : FVec F S1536x1x3x3 .f32 := Host.absf main_arg11
  let main_cst_10 : FVec F S_ .f32 := constant S_ .f32 0x7F800000#32
  let main_v34 : FVec F S1536x1x3x3 .f32 := broadcastInDim S1536x1x3x3 ![] bcast_S_S1536x1x3x3 main_cst_10
  let main_v35 : IVec S1536x1x3x3 1 := cmpf .olt main_v33 main_v34
  fn_part2 (F := F) main_arg0 main_arg1 main_arg2 main_arg3 main_arg4 main_arg12 main_arg13 main_arg14 main_arg15 main_v2 main_v5 main_v8 main_v11 main_v14 main_v17 main_v20 main_v23 main_v26 main_v29 main_v32 main_v35

def fn {F : FTy → Type} [FloatOps F] (main_arg0 : FVec F S4x384x32x32 .f32) (main_arg1 : FVec F S384 .f32) (main_arg2 : FVec F S384 .f32) (main_arg3 : FVec F S384x384 .f32) (main_arg4 : FVec F S384x384 .f32) (main_arg5 : FVec F S384x384 .f32) (main_arg6 : FVec F S384x384 .f32) (main_arg7 : FVec F S384 .f32) (main_arg8 : FVec F S1536x384 .f32) (main_arg9 : FVec F S1536 .f32) (main_arg10 : FVec F S1536 .f32) (main_arg11 : FVec F S1536x1x3x3 .f32) (main_arg12 : FVec F S1536 .f32) (main_arg13 : FVec F S1536 .f32) (main_arg14 : FVec F S384x1536 .f32) (main_arg15 : FVec F S384 .f32) (main_arg16 : FVec F S384 .f32) : IVec S4x1024x1024x6 1 × IVec S4x384x32x32 1 × IVec S384 1 × IVec S384 1 × IVec S384x384 1 × IVec S384x384 1 × IVec S384x384 1 × IVec S384x384 1 × IVec S384 1 × IVec S1536x384 1 × IVec S1536 1 × IVec S1536 1 × IVec S1536x1x3x3 1 × IVec S1536 1 × IVec S1536 1 × IVec S384x1536 1 × IVec S384 1 :=
  let main_v0 : FVec F S4x384x32x32 .f32 := Host.absf main_arg0
  let main_cst : FVec F S_ .f32 := constant S_ .f32 0x7F800000#32
  let main_v1 : FVec F S4x384x32x32 .f32 := broadcastInDim S4x384x32x32 ![] bcast_S_S4x384x32x32 main_cst
  let main_v2 : IVec S4x384x32x32 1 := cmpf .olt main_v0 main_v1
  let main_v3 : FVec F S384 .f32 := Host.absf main_arg1
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S384 .f32 := Host.absf main_arg2
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_v9 : FVec F S384x384 .f32 := Host.absf main_arg3
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_v12 : FVec F S384x384 .f32 := Host.absf main_arg4
  let main_cst_3 : FVec F S_ .f32 := constant S_ .f32 0x7F800000#32
  let main_v13 : FVec F S384x384 .f32 := broadcastInDim S384x384 ![] bcast_S_S384x384 main_cst_3
  let main_v14 : IVec S384x384 1 := cmpf .olt main_v12 main_v13
  let main_v15 : FVec F S384x384 .f32 := Host.absf main_arg5
  let main_cst_4 : FVec F S_ .f32 := constant S_ .f32 0x7F800000#32
  let main_v16 : FVec F S384x384 .f32 := broadcastInDim S384x384 ![] bcast_S_S384x384 main_cst_4
  let main_v17 : IVec S384x384 1 := cmpf .olt main_v15 main_v16
  fn_part1 (F := F) main_arg0 main_arg1 main_arg2 main_arg3 main_arg4 main_arg6 main_arg7 main_arg8 main_arg9 main_arg10 main_arg11 main_arg12 main_arg13 main_arg14 main_arg15 main_v2 main_v5 main_v8 main_v11 main_v14 main_v17
-- ==== Kernel.lean ====
abbrev S4x384x32x32 : Shape := ⟨4, ![4, 384, 32, 32]⟩
abbrev S384 : Shape := ⟨1, ![384]⟩
abbrev S384x384 : Shape := ⟨2, ![384, 384]⟩
abbrev S1536x384 : Shape := ⟨2, ![1536, 384]⟩
abbrev S1536 : Shape := ⟨1, ![1536]⟩
abbrev S1536x1x3x3 : Shape := ⟨4, ![1536, 1, 3, 3]⟩
abbrev S384x1536 : Shape := ⟨2, ![384, 1536]⟩
abbrev S_ : Shape := ⟨0, ![]⟩
abbrev S4x384x1024 : Shape := ⟨3, ![4, 384, 1024]⟩
abbrev S4x1024x384 : Shape := ⟨3, ![4, 1024, 384]⟩
abbrev S8x384 : Shape := ⟨2, ![8, 384]⟩
abbrev S1 : Shape := ⟨1, ![1]⟩
abbrev S1536x1 : Shape := ⟨2, ![1536, 1]⟩
abbrev S384x1 : Shape := ⟨2, ![384, 1]⟩
abbrev S16x1536 : Shape := ⟨2, ![16, 1536]⟩
abbrev S1536x9 : Shape := ⟨2, ![1536, 9]⟩
abbrev S9x1536 : Shape := ⟨2, ![9, 1536]⟩
abbrev S8x1536 : Shape := ⟨2, ![8, 1536]⟩
abbrev S1x1024x384 : Shape := ⟨3, ![1, 1024, 384]⟩
abbrev S1024x384 : Shape := ⟨2, ![1024, 384]⟩
abbrev S1x384 : Shape := ⟨2, ![1, 384]⟩
abbrev S1024x64 : Shape := ⟨2, ![1024, 64]⟩
abbrev S1024x1024 : Shape := ⟨2, ![1024, 1024]⟩
abbrev S1024x128 : Shape := ⟨2, ![1024, 128]⟩
abbrev S1024x1 : Shape := ⟨2, ![1024, 1]⟩
abbrev S8x768 : Shape := ⟨2, ![8, 768]⟩
abbrev S32x768 : Shape := ⟨2, ![32, 768]⟩
abbrev S768x384 : Shape := ⟨2, ![768, 384]⟩
abbrev S1024x768 : Shape := ⟨2, ![1024, 768]⟩
abbrev S1x768 : Shape := ⟨2, ![1, 768]⟩
abbrev S1040x768 : Shape := ⟨2, ![1040, 768]⟩
abbrev S1088x768 : Shape := ⟨2, ![1088, 768]⟩
abbrev S384x768 : Shape := ⟨2, ![384, 768]⟩

abbrev nBuf : Space → Nat
  | .hbm => 99
  | .vmem => 14
  | .smem => 0
  | _ => 0

abbrev bufTy : (tb : Table) → Fin (tcTables nBuf tb) → BufTy
  | .hbm, ⟨0, _⟩ => ⟨S4x384x32x32, .f32⟩
  | .hbm, ⟨1, _⟩ => ⟨S384, .f32⟩
  | .hbm, ⟨2, _⟩ => ⟨S384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .hbm, ⟨7, _⟩ => ⟨S384, .f32⟩
  | .hbm, ⟨8, _⟩ => ⟨S1536x384, .f32⟩
  | .hbm, ⟨9, _⟩ => ⟨S1536, .f32⟩
  | .hbm, ⟨10, _⟩ => ⟨S1536, .f32⟩
  | .hbm, ⟨11, _⟩ => ⟨S1536x1x3x3, .f32⟩
  | .hbm, ⟨12, _⟩ => ⟨S1536, .f32⟩
  | .hbm, ⟨13, _⟩ => ⟨S1536, .f32⟩
  | .hbm, ⟨14, _⟩ => ⟨S384x1536, .f32⟩
  | .hbm, ⟨15, _⟩ => ⟨S384, .f32⟩
  | .hbm, ⟨16, _⟩ => ⟨S384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x384x1024, .f32⟩
  | .hbm, ⟨22, _⟩ => ⟨S4x1024x384, .f32⟩
  | .hbm, ⟨23, _⟩ => ⟨S_, .f32⟩
  | .hbm, ⟨24, _⟩ => ⟨S384x384, .f32⟩
  | .hbm, ⟨25, _⟩ => ⟨S384x384, .f32⟩
  | .hbm, ⟨26, _⟩ => ⟨S384x384, .bf16⟩
  | .hbm, ⟨27, _⟩ => ⟨S_, .f32⟩
  | .hbm, ⟨28, _⟩ => ⟨S384x384, .f32⟩
  | .hbm, ⟨29, _⟩ => ⟨S384x384, .f32⟩
  | .hbm, ⟨30, _⟩ => ⟨S384x384, .bf16⟩
  | .hbm, ⟨31, _⟩ => ⟨S_, .f32⟩
  | .hbm, ⟨32, _⟩ => ⟨S384x384, .f32⟩
  | .hbm, ⟨33, _⟩ => ⟨S384x384, .f32⟩
  | .hbm, ⟨34, _⟩ => ⟨S384x384, .bf16⟩
  | .hbm, ⟨35, _⟩ => ⟨S384x384, .bf16⟩
  | .hbm, ⟨36, _⟩ => ⟨S_, .f32⟩
  | .hbm, ⟨37, _⟩ => ⟨S8x384, .f32⟩
  | .hbm, ⟨38, _⟩ => ⟨S_, .f32⟩
  | .hbm, ⟨39, _⟩ => ⟨S384, .f32⟩
  | .hbm, ⟨40, _⟩ => ⟨S384, .f32⟩
  | .hbm, ⟨41, _⟩ => ⟨S_, .i32⟩
  | .hbm, ⟨42, _⟩ => ⟨S1, .i32⟩
  | .hbm, ⟨43, _⟩ => ⟨S8x384, .f32⟩
  | .hbm, ⟨44, _⟩ => ⟨S_, .i32⟩
  | .hbm, ⟨45, _⟩ => ⟨S1, .i32⟩
  | .hbm, ⟨46, _⟩ => ⟨S8x384, .f32⟩
  | .hbm, ⟨47, _⟩ => ⟨S_, .i32⟩
  | .hbm, ⟨48, _⟩ => ⟨S1, .i32⟩
  | .hbm, ⟨49, _⟩ => ⟨S8x384, .f32⟩
  | .hbm, ⟨50, _⟩ => ⟨S_, .f32⟩
  | .hbm, ⟨51, _⟩ => ⟨S1536, .f32⟩
  | .hbm, ⟨52, _⟩ => ⟨S1536, .f32⟩
  | .hbm, ⟨53, _⟩ => ⟨S1536x1, .f32⟩
  | .hbm, ⟨54, _⟩ => ⟨S1536x384, .f32⟩
  | .hbm, ⟨55, _⟩ => ⟨S1536x384, .f32⟩
  | .hbm, ⟨56, _⟩ => ⟨S1536x384, .bf16⟩
  | .hbm, ⟨57, _⟩ => ⟨S_, .f32⟩
  | .hbm, ⟨58, _⟩ => ⟨S384, .f32⟩
  | .hbm, ⟨59, _⟩ => ⟨S384, .f32⟩
  | .hbm, ⟨60, _⟩ => ⟨S_, .f32⟩
  | .hbm, ⟨61, _⟩ => ⟨S384, .f32⟩
  | .hbm, ⟨62, _⟩ => ⟨S384, .f32⟩
  | .hbm, ⟨63, _⟩ => ⟨S384x1, .f32⟩
  | .hbm, ⟨64, _⟩ => ⟨S384x1536, .f32⟩
  | .hbm, ⟨65, _⟩ => ⟨S384x1536, .f32⟩
  | .hbm, ⟨66, _⟩ => ⟨S384x1536, .bf16⟩
  | .hbm, ⟨67, _⟩ => ⟨S_, .f32⟩
  | .hbm, ⟨68, _⟩ => ⟨S16x1536, .f32⟩
  | .hbm, ⟨69, _⟩ => ⟨S1536x9, .f32⟩
  | .hbm, ⟨70, _⟩ => ⟨S_, .f32⟩
  | .hbm, ⟨71, _⟩ => ⟨S1536, .f32⟩
  | .hbm, ⟨72, _⟩ => ⟨S1536, .f32⟩
  | .hbm, ⟨73, _⟩ => ⟨S_, .f32⟩
  | .hbm, ⟨74, _⟩ => ⟨S1536, .f32⟩
  | .hbm, ⟨75, _⟩ => ⟨S1536, .f32⟩
  | .hbm, ⟨76, _⟩ => ⟨S1536x1, .f32⟩
  | .hbm, ⟨77, _⟩ => ⟨S1536x9, .f32⟩
  | .hbm, ⟨78, _⟩ => ⟨S1536x9, .f32⟩
  | .hbm, ⟨79, _⟩ => ⟨S9x1536, .f32⟩
  | .hbm, ⟨80, _⟩ => ⟨S_, .i32⟩
  | .hbm, ⟨81, _⟩ => ⟨S1, .i32⟩
  | .hbm, ⟨82, _⟩ => ⟨S16x1536, .f32⟩
  | .hbm, ⟨83, _⟩ => ⟨S_, .f32⟩
  | .hbm, ⟨84, _⟩ => ⟨S8x1536, .f32⟩
  | .hbm, ⟨85, _⟩ => ⟨S_, .i32⟩
  | .hbm, ⟨86, _⟩ => ⟨S1, .i32⟩
  | .hbm, ⟨87, _⟩ => ⟨S8x1536, .f32⟩
  | .hbm, ⟨88, _⟩ => ⟨S_, .i32⟩
  | .hbm, ⟨89, _⟩ => ⟨S1, .i32⟩
  | .hbm, ⟨90, _⟩ => ⟨S8x1536, .f32⟩
  | .hbm, ⟨91, _⟩ => ⟨S_, .f32⟩
  | .hbm, ⟨92, _⟩ => ⟨S8x384, .f32⟩
  | .hbm, ⟨93, _⟩ => ⟨S_, .i32⟩
  | .hbm, ⟨94, _⟩ => ⟨S1, .i32⟩
  | .hbm, ⟨95, _⟩ => ⟨S8x384, .f32⟩
  | .hbm, ⟨96, _⟩ => ⟨S4x1024x384, .f32⟩
  | .hbm, ⟨97, _⟩ => ⟨S4x384x1024, .f32⟩
  | .hbm, ⟨98, _⟩ => ⟨S4x384x32x32, .f32⟩
  | .local _ .vmem, ⟨0, _⟩ => ⟨S1x1024x384, .f32⟩
  | .local _ .vmem, ⟨1, _⟩ => ⟨S1x1024x384, .f32⟩
  | .local _ .vmem, ⟨2, _⟩ => ⟨S384x384, .bf16⟩
  | .local _ .vmem, ⟨3, _⟩ => ⟨S384x384, .bf16⟩
  | .local _ .vmem, ⟨4, _⟩ => ⟨S384x384, .bf16⟩
  | .local _ .vmem, ⟨5, _⟩ => ⟨S384x384, .bf16⟩
  | .local _ .vmem, ⟨6, _⟩ => ⟨S8x384, .f32⟩
  | .local _ .vmem, ⟨7, _⟩ => ⟨S1536x384, .bf16⟩
  | .local _ .vmem, ⟨8, _⟩ => ⟨S384x1536, .bf16⟩
  | .local _ .vmem, ⟨9, _⟩ => ⟨S16x1536, .f32⟩
  | .local _ .vmem, ⟨10, _⟩ => ⟨S8x1536, .f32⟩
  | .local _ .vmem, ⟨11, _⟩ => ⟨S8x384, .f32⟩
  | .local _ .vmem, ⟨12, _⟩ => ⟨S1x1024x384, .f32⟩
  | .local _ .vmem, ⟨13, _⟩ => ⟨S1x1024x384, .f32⟩
  | _, _ => ⟨S4x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_cst_1 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_2 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_cst_3 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_cst_4 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_c : Ref sig .tc := ⟨.hbm, 41, rfl⟩
abbrev main_call0_v18 : Ref sig .tc := ⟨.hbm, 42, rfl⟩
abbrev main_call0_v19 : Ref sig .tc := ⟨.hbm, 43, rfl⟩
abbrev main_call0_c_5 : Ref sig .tc := ⟨.hbm, 44, rfl⟩
abbrev main_call0_v20 : Ref sig .tc := ⟨.hbm, 45, rfl⟩
abbrev main_call0_v21 : Ref sig .tc := ⟨.hbm, 46, rfl⟩
abbrev main_call0_c_6 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_cst_7 : Ref sig .tc := ⟨.hbm, 57, rfl⟩
abbrev main_call0_v31 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_v38 : Ref sig .tc := ⟨.hbm, 65, rfl⟩
abbrev main_call0_v39 : Ref sig .tc := ⟨.hbm, 66, rfl⟩
abbrev main_call0_cst_8 : Ref sig .tc := ⟨.hbm, 67, rfl⟩
abbrev main_call0_v40 : Ref sig .tc := ⟨.hbm, 68, rfl⟩
abbrev main_call0_v41 : Ref sig .tc := ⟨.hbm, 69, rfl⟩
abbrev main_call0_cst_9 : Ref sig .tc := ⟨.hbm, 70, rfl⟩
abbrev main_call0_v42 : Ref sig .tc := ⟨.hbm, 71, rfl⟩
abbrev main_call0_v43 : Ref sig .tc := ⟨.hbm, 72, rfl⟩
abbrev main_call0_v44 : Ref sig .tc := ⟨.hbm, 73, rfl⟩
abbrev main_call0_v45 : Ref sig .tc := ⟨.hbm, 74, rfl⟩
abbrev main_call0_v46 : Ref sig .tc := ⟨.hbm, 75, rfl⟩
abbrev main_call0_v47 : Ref sig .tc := ⟨.hbm, 76, rfl⟩
abbrev main_call0_v48 : Ref sig .tc := ⟨.hbm, 77, rfl⟩
abbrev main_call0_v49 : Ref sig .tc := ⟨.hbm, 78, rfl⟩
abbrev main_call0_v50 : Ref sig .tc := ⟨.hbm, 79, rfl⟩
abbrev main_call0_c_10 : Ref sig .tc := ⟨.hbm, 80, rfl⟩
abbrev main_call0_v51 : Ref sig .tc := ⟨.hbm, 81, rfl⟩
abbrev main_call0_v52 : Ref sig .tc := ⟨.hbm, 82, rfl⟩
abbrev main_call0_cst_11 : Ref sig .tc := ⟨.hbm, 83, rfl⟩
abbrev main_call0_v53 : Ref sig .tc := ⟨.hbm, 84, rfl⟩
abbrev main_call0_c_12 : Ref sig .tc := ⟨.hbm, 85, rfl⟩
abbrev main_call0_v54 : Ref sig .tc := ⟨.hbm, 86, rfl⟩
abbrev main_call0_v55 : Ref sig .tc := ⟨.hbm, 87, rfl⟩
abbrev main_call0_c_13 : Ref sig .tc := ⟨.hbm, 88, rfl⟩
abbrev main_call0_v56 : Ref sig .tc := ⟨.hbm, 89, rfl⟩
abbrev main_call0_v57 : Ref sig .tc := ⟨.hbm, 90, rfl⟩
abbrev main_call0_cst_14 : Ref sig .tc := ⟨.hbm, 91, rfl⟩
abbrev main_call0_v58 : Ref sig .tc := ⟨.hbm, 92, rfl⟩
abbrev main_call0_c_15 : Ref sig .tc := ⟨.hbm, 93, rfl⟩
abbrev main_call0_v59 : Ref sig .tc := ⟨.hbm, 94, rfl⟩
abbrev main_call0_v60 : Ref sig .tc := ⟨.hbm, 95, rfl⟩
abbrev main_call0_v61 : Ref sig .tc := ⟨.hbm, 96, rfl⟩
abbrev main_call0_v62 : Ref sig .tc := ⟨.hbm, 97, rfl⟩
abbrev main_v0 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x384x32x32 : Shape := ⟨4, ![4, 384, 32, 32]⟩
abbrev S384 : Shape := ⟨1, ![384]⟩
abbrev S384x384 : Shape := ⟨2, ![384, 384]⟩
abbrev S1536x384 : Shape := ⟨2, ![1536, 384]⟩
abbrev S1536 : Shape := ⟨1, ![1536]⟩
abbrev S1536x1x3x3 : Shape := ⟨4, ![1536, 1, 3, 3]⟩
abbrev S384x1536 : Shape := ⟨2, ![384, 1536]⟩
abbrev S1x384x1x1 : Shape := ⟨4, ![1, 384, 1, 1]⟩
abbrev S_ : Shape := ⟨0, ![]⟩
abbrev S384x4x32x32 : Shape := ⟨4, ![384, 4, 32, 32]⟩
abbrev S4x6x64x1024 : Shape := ⟨4, ![4, 6, 64, 1024]⟩
abbrev S4x1024x6x64 : Shape := ⟨4, ![4, 1024, 6, 64]⟩
abbrev S4x6x1024x1024 : Shape := ⟨4, ![4, 6, 1024, 1024]⟩
abbrev S4x1024x1024x6 : Shape := ⟨4, ![4, 1024, 1024, 6]⟩
abbrev S4x1024x6 : Shape := ⟨3, ![4, 1024, 6]⟩
abbrev S4x1024x1x6 : Shape := ⟨4, ![4, 1024, 1, 6]⟩
abbrev S1536x4x32x32 : Shape := ⟨4, ![1536, 4, 32, 32]⟩
abbrev S4x1536x32x32 : Shape := ⟨4, ![4, 1536, 32, 32]⟩
abbrev S1x1536x1x1 : Shape := ⟨4, ![1, 1536, 1, 1]⟩
abbrev S4x1536x34x34 : Shape := ⟨4, ![4, 1536, 34, 34]⟩
abbrev S1536x1x1x1 : Shape := ⟨4, ![1536, 1, 1, 1]⟩

abbrev nBuf : Space → Nat
  | .hbm => 222
  | .vmem => 0
  | .smem => 0
  | _ => 0

abbrev hbmTy0_0 (i : Nat) : BufTy := match i % 128 with
  | 0 => ⟨S4x384x32x32, .f32⟩
  | 1 => ⟨S384, .f32⟩
  | 2 => ⟨S384, .f32⟩
  | 3 => ⟨S384x384, .f32⟩
  | 4 => ⟨S384x384, .f32⟩
  | 5 => ⟨S384x384, .f32⟩
  | 6 => ⟨S384x384, .f32⟩
  | 7 => ⟨S384, .f32⟩
  | 8 => ⟨S1536x384, .f32⟩
  | 9 => ⟨S1536, .f32⟩
  | 10 => ⟨S1536, .f32⟩
  | 11 => ⟨S1536x1x3x3, .f32⟩
  | 12 => ⟨S1536, .f32⟩
  | 13 => ⟨S1536, .f32⟩
  | 14 => ⟨S384x1536, .f32⟩
  | 15 => ⟨S384, .f32⟩
  | 16 => ⟨S384, .f32⟩
  | 17 => ⟨S1x384x1x1, .f32⟩
  | 18 => ⟨S1x384x1x1, .f32⟩
  | 19 => ⟨S4x384x32x32, .f32⟩
  | 20 => ⟨S4x384x32x32, .f32⟩
  | 21 => ⟨S_, .f32⟩
  | 22 => ⟨S_, .f32⟩
  | 23 => ⟨S_, .f32⟩
  | 24 => ⟨S4x384x32x32, .f32⟩
  | 25 => ⟨S4x384x32x32, .f32⟩
  | 26 => ⟨S4x384x32x32, .f32⟩
  | 27 => ⟨S4x384x32x32, .f32⟩
  | 28 => ⟨S_, .f32⟩
  | 29 => ⟨S4x384x32x32, .f32⟩
  | 30 => ⟨S4x384x32x32, .f32⟩
  | 31 => ⟨S4x384x32x32, .f32⟩
  | 32 => ⟨S_, .f32⟩
  | 33 => ⟨S4x384x32x32, .f32⟩
  | 34 => ⟨S4x384x32x32, .f32⟩
  | 35 => ⟨S4x384x32x32, .f32⟩
  | 36 => ⟨S4x384x32x32, .f32⟩
  | 37 => ⟨S384x4x32x32, .f32⟩
  | 38 => ⟨S4x384x32x32, .f32⟩
  | 39 => ⟨S4x6x64x1024, .f32⟩
  | 40 => ⟨S4x1024x6x64, .f32⟩
  | 41 => ⟨S1x384x1x1, .f32⟩
  | 42 => ⟨S1x384x1x1, .f32⟩
  | 43 => ⟨S4x384x32x32, .f32⟩
  | 44 => ⟨S4x384x32x32, .f32⟩
  | 45 => ⟨S_, .f32⟩
  | 46 => ⟨S_, .f32⟩
  | 47 => ⟨S_, .f32⟩
  | 48 => ⟨S4x384x32x32, .f32⟩
  | 49 => ⟨S4x384x32x32, .f32⟩
  | 50 => ⟨S4x384x32x32, .f32⟩
  | 51 => ⟨S4x384x32x32, .f32⟩
  | 52 => ⟨S_, .f32⟩
  | 53 => ⟨S4x384x32x32, .f32⟩
  | 54 => ⟨S4x384x32x32, .f32⟩
  | 55 => ⟨S4x384x32x32, .f32⟩
  | 56 => ⟨S_, .f32⟩
  | 57 => ⟨S4x384x32x32, .f32⟩
  | 58 => ⟨S4x384x32x32, .f32⟩
  | 59 => ⟨S4x384x32x32, .f32⟩
  | 60 => ⟨S4x384x32x32, .f32⟩
  | 61 => ⟨S384x4x32x32, .f32⟩
  | 62 => ⟨S4x384x32x32, .f32⟩
  | 63 => ⟨S384x4x32x32, .f32⟩
  | 64 => ⟨S4x384x32x32, .f32⟩
  | 65 => ⟨S4x6x64x1024, .f32⟩
  | 66 => ⟨S4x1024x6x64, .f32⟩
  | 67 => ⟨S4x6x64x1024, .f32⟩
  | 68 => ⟨S4x1024x6x64, .f32⟩
  | 69 => ⟨S4x6x1024x1024, .f32⟩
  | 70 => ⟨S4x1024x1024x6, .f32⟩
  | 71 => ⟨S_, .f32⟩
  | 72 => ⟨S4x1024x1024x6, .f32⟩
  | 73 => ⟨S4x1024x1024x6, .f32⟩
  | 74 => ⟨S_, .f32⟩
  | 75 => ⟨S4x1024x6, .f32⟩
  | 76 => ⟨S_, .f32⟩
  | 77 => ⟨S4x1024x6, .f32⟩
  | 78 => ⟨S4x1024x6, .f32⟩
  | 79 => ⟨S4x1024x1x6, .f32⟩
  | 80 => ⟨S4x1024x1024x6, .f32⟩
  | 81 => ⟨S4x1024x1024x6, .f32⟩
  | 82 => ⟨S4x1024x1024x6, .f32⟩
  | 83 => ⟨S_, .f32⟩
  | 84 => ⟨S4x1024x6, .f32⟩
  | 85 => ⟨S4x1024x1x6, .f32⟩
  | 86 => ⟨S4x1024x1024x6, .f32⟩
  | 87 => ⟨S4x1024x1024x6, .f32⟩
  | 88 => ⟨S4x6x64x1024, .f32⟩
  | 89 => ⟨S4x1024x6x64, .f32⟩
  | 90 => ⟨S4x6x64x1024, .f32⟩
  | 91 => ⟨S4x384x32x32, .f32⟩
  | 92 => ⟨S384x4x32x32, .f32⟩
  | 93 => ⟨S4x384x32x32, .f32⟩
  | 94 => ⟨S1x384x1x1, .f32⟩
  | 95 => ⟨S4x384x32x32, .f32⟩
  | 96 => ⟨S4x384x32x32, .f32⟩
  | 97 => ⟨S4x384x32x32, .f32⟩
  | 98 => ⟨S1536x4x32x32, .f32⟩
  | 99 => ⟨S4x1536x32x32, .f32⟩
  | 100 => ⟨S1x1536x1x1, .f32⟩
  | 101 => ⟨S1x1536x1x1, .f32⟩
  | 102 => ⟨S4x1536x32x32, .f32⟩
  | 103 => ⟨S4x1536x32x32, .f32⟩
  | 104 => ⟨S_, .f32⟩
  | 105 => ⟨S_, .f32⟩
  | 106 => ⟨S_, .f32⟩
  | 107 => ⟨S4x1536x32x32, .f32⟩
  | 108 => ⟨S4x1536x32x32, .f32⟩
  | 109 => ⟨S4x1536x32x32, .f32⟩
  | 110 => ⟨S4x1536x32x32, .f32⟩
  | 111 => ⟨S_, .f32⟩
  | 112 => ⟨S4x1536x32x32, .f32⟩
  | 113 => ⟨S4x1536x32x32, .f32⟩
  | 114 => ⟨S4x1536x32x32, .f32⟩
  | 115 => ⟨S_, .f32⟩
  | 116 => ⟨S4x1536x32x32, .f32⟩
  | 117 => ⟨S4x1536x32x32, .f32⟩
  | 118 => ⟨S4x1536x32x32, .f32⟩
  | 119 => ⟨S4x1536x32x32, .f32⟩
  | 120 => ⟨S_, .i32⟩
  | 121 => ⟨S_, .f32⟩
  | 122 => ⟨S4x1536x34x34, .f32⟩
  | 123 => ⟨S_, .f32⟩
  | 124 => ⟨S4x1536x32x32, .f32⟩
  | 125 => ⟨S4x1536x32x32, .f32⟩
  | 126 => ⟨S1536x1x1x1, .f32⟩
  | 127 => ⟨S1536, .f32⟩
  | _ => ⟨S4x384x32x32, .f32⟩

abbrev hbmTy0_1 (i : Nat) : BufTy := match i % 128 with
  | 0 => ⟨S1x1536x1x1, .f32⟩
  | 1 => ⟨S4x1536x32x32, .f32⟩
  | 2 => ⟨S4x1536x32x32, .f32⟩
  | 3 => ⟨S4x1536x32x32, .f32⟩
  | 4 => ⟨S4x1536x32x32, .f32⟩
  | 5 => ⟨S1536x1x1x1, .f32⟩
  | 6 => ⟨S1536, .f32⟩
  | 7 => ⟨S1x1536x1x1, .f32⟩
  | 8 => ⟨S4x1536x32x32, .f32⟩
  | 9 => ⟨S4x1536x32x32, .f32⟩
  | 10 => ⟨S4x1536x32x32, .f32⟩
  | 11 => ⟨S4x1536x32x32, .f32⟩
  | 12 => ⟨S1536x1x1x1, .f32⟩
  | 13 => ⟨S1536, .f32⟩
  | 14 => ⟨S1x1536x1x1, .f32⟩
  | 15 => ⟨S4x1536x32x32, .f32⟩
  | 16 => ⟨S4x1536x32x32, .f32⟩
  | 17 => ⟨S4x1536x32x32, .f32⟩
  | 18 => ⟨S4x1536x32x32, .f32⟩
  | 19 => ⟨S1536x1x1x1, .f32⟩
  | 20 => ⟨S1536, .f32⟩
  | 21 => ⟨S1x1536x1x1, .f32⟩
  | 22 => ⟨S4x1536x32x32, .f32⟩
  | 23 => ⟨S4x1536x32x32, .f32⟩
  | 24 => ⟨S4x1536x32x32, .f32⟩
  | 25 => ⟨S4x1536x32x32, .f32⟩
  | 26 => ⟨S1536x1x1x1, .f32⟩
  | 27 => ⟨S1536, .f32⟩
  | 28 => ⟨S1x1536x1x1, .f32⟩
  | 29 => ⟨S4x1536x32x32, .f32⟩
  | 30 => ⟨S4x1536x32x32, .f32⟩
  | 31 => ⟨S4x1536x32x32, .f32⟩
  | 32 => ⟨S4x1536x32x32, .f32⟩
  | 33 => ⟨S1536x1x1x1, .f32⟩
  | 34 => ⟨S1536, .f32⟩
  | 35 => ⟨S1x1536x1x1, .f32⟩
  | 36 => ⟨S4x1536x32x32, .f32⟩
  | 37 => ⟨S4x1536x32x32, .f32⟩
  | 38 => ⟨S4x1536x32x32, .f32⟩
  | 39 => ⟨S4x1536x32x32, .f32⟩
  | 40 => ⟨S1536x1x1x1, .f32⟩
  | 41 => ⟨S1536, .f32⟩
  | 42 => ⟨S1x1536x1x1, .f32⟩
  | 43 => ⟨S4x1536x32x32, .f32⟩
  | 44 => ⟨S4x1536x32x32, .f32⟩
  | 45 => ⟨S4x1536x32x32, .f32⟩
  | 46 => ⟨S4x1536x32x32, .f32⟩
  | 47 => ⟨S1536x1x1x1, .f32⟩
  | 48 => ⟨S1536, .f32⟩
  | 49 => ⟨S1x1536x1x1, .f32⟩
  | 50 => ⟨S4x1536x32x32, .f32⟩
  | 51 => ⟨S4x1536x32x32, .f32⟩
  | 52 => ⟨S4x1536x32x32, .f32⟩
  | 53 => ⟨S4x1536x32x32, .f32⟩
  | 54 => ⟨S1536x1x1x1, .f32⟩
  | 55 => ⟨S1536, .f32⟩
  | 56 => ⟨S1x1536x1x1, .f32⟩
  | 57 => ⟨S4x1536x32x32, .f32⟩
  | 58 => ⟨S4x1536x32x32, .f32⟩
  | 59 => ⟨S4x1536x32x32, .f32⟩
  | 60 => ⟨S1x1536x1x1, .f32⟩
  | 61 => ⟨S1x1536x1x1, .f32⟩
  | 62 => ⟨S4x1536x32x32, .f32⟩
  | 63 => ⟨S4x1536x32x32, .f32⟩
  | 64 => ⟨S_, .f32⟩
  | 65 => ⟨S_, .f32⟩
  | 66 => ⟨S_, .f32⟩
  | 67 => ⟨S4x1536x32x32, .f32⟩
  | 68 => ⟨S4x1536x32x32, .f32⟩
  | 69 => ⟨S4x1536x32x32, .f32⟩
  | 70 => ⟨S4x1536x32x32, .f32⟩
  | 71 => ⟨S_, .f32⟩
  | 72 => ⟨S4x1536x32x32, .f32⟩
  | 73 => ⟨S4x1536x32x32, .f32⟩
  | 74 => ⟨S4x1536x32x32, .f32⟩
  | 75 => ⟨S_, .f32⟩
  | 76 => ⟨S4x1536x32x32, .f32⟩
  | 77 => ⟨S4x1536x32x32, .f32⟩
  | 78 => ⟨S4x1536x32x32, .f32⟩
  | 79 => ⟨S4x1536x32x32, .f32⟩
  | 80 => ⟨S384x4x32x32, .f32⟩
  | 81 => ⟨S4x384x32x32, .f32⟩
  | 82 => ⟨S1x384x1x1, .f32⟩
  | 83 => ⟨S1x384x1x1, .f32⟩
  | 84 => ⟨S4x384x32x32, .f32⟩
  | 85 => ⟨S4x384x32x32, .f32⟩
  | 86 => ⟨S_, .f32⟩
  | 87 => ⟨S_, .f32⟩
  | 88 => ⟨S_, .f32⟩
  | 89 => ⟨S4x384x32x32, .f32⟩
  | 90 => ⟨S4x384x32x32, .f32⟩
  | 91 => ⟨S4x384x32x32, .f32⟩
  | 92 => ⟨S4x384x32x32, .f32⟩
  | 93 => ⟨S4x384x32x32, .f32⟩
  | _ => ⟨S4x384x32x32, .f32⟩

abbrev hbmTy (i : Nat) : BufTy := match i / 128 with
  | 0 => hbmTy0_0 i
  | 1 => hbmTy0_1 i
  | _ => ⟨S4x384x32x32, .f32⟩

abbrev bufTy : (tb : Table) → Fin (tcTables nBuf tb) → BufTy
  | .hbm, ⟨i, _⟩ => hbmTy i
  | _, _ => ⟨S4x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_10 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c : Ref sig .tc := ⟨.hbm, 120, rfl⟩
abbrev main_call0_v0 : Ref sig .tc := ⟨.hbm, 121, rfl⟩
abbrev main_v90 : Ref sig .tc := ⟨.hbm, 122, rfl⟩
abbrev main_cst_12 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_cst_13 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_cst_14 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_15 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_16 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩

abbrev nD : Nat := 1
abbrev τ : Topo := Topo.v7x

variable {F : FTy → Type} [FloatOps F]
-- ==== Proof.Attn.Reals.lean ====
/- The real numbers behind the program's literals, the error function and the two spellings of gelu, and how a softmax may be shifted. -/
module

public import Idealize.ShloMosaic.Lib.Pointwise

@[expose] public section

set_option maxRecDepth 16384

noncomputable section

namespace Cert.Attn

open Idealize.ShloMosaic

/-- The square root of one plus the normalisation's epsilon, that sum as the literal holds it. -/
def sgm : ℝ := Real.sqrt (8388692 / 8388608)

/-- The literal for one over the square root of two. -/
def rs2 : ℝ := 11863283 / 16777216

/-- The error function on the reals. -/
def erfR (r : ℝ) : ℝ := 2 / Real.sqrt Real.pi * ∫ t in (0 : ℝ)..r, Real.exp (-(t ^ 2))

/-- Gelu without its factor one half. -/
def gk (u : ℝ) : ℝ := u * (1 + erfR (u * rs2))

/-- Gelu. -/
def gelu (u : ℝ) : ℝ := (1 / 2 * u) * (1 + erfR (u * rs2))

theorem gk_eq (u : ℝ) : gk u = 2 * gelu u := by unfold gk gelu; ring

theorem erf_real (r : ℝ) : Ideal.erf (r : EReal) = (erfR r : EReal) := rfl

theorem erfR_neg (r : ℝ) : erfR (-r) = -erfR r := by
  unfold erfR
  have h := intervalIntegral.integral_comp_neg (fun t : ℝ => Real.exp (-(t ^ 2))) (a := 0) (b := r)
  simp only [neg_sq, neg_zero] at h
  rw [intervalIntegral.integral_symm, ← h]
  ring

theorem erfc_real (r : ℝ) : Ideal.erfc (r : EReal) = ((1 - erfR r : ℝ) : EReal) := by
  unfold Ideal.erfc
  rw [erf_real, EReal.coe_sub, EReal.coe_one]

theorem sgm_pos : 0 < sgm := Real.sqrt_pos.2 (by norm_num)

theorem sgm_ne : sgm ≠ 0 := sgm_pos.ne'

/-- A finite sum of reals, read among the extended reals. -/
theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

theorem lit_sgm : Ideal.ofBits .f32 0x3F800054#32 = ((8388692 / 8388608 : ℝ) : EReal) := by
  simp [Ideal.ofBits, Ideal.ieee, -EReal.coe_mul]; norm_num

theorem lit_rs2 : Ideal.ofBits .f32 0x3F3504F3#32 = (rs2 : EReal) := by
  unfold rs2; simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_eighth : Ideal.ofBits .f32 0x3E000000#32 = ((1 / 8 : ℝ) : EReal) := by
  simp [Ideal.ofBits, Ideal.ieee, -EReal.coe_mul]; norm_num

theorem lit_sixteenth : Ideal.ofBits .f32 0x3D800000#32 = ((1 / 16 : ℝ) : EReal) := by
  simp [Ideal.ofBits, Ideal.ieee, -EReal.coe_mul]; norm_num

theorem lit_forty : Ideal.ofBits .f32 0x42200000#32 = ((40 : ℝ) : EReal) := by
  simp [Ideal.ofBits, Ideal.ieee, -EReal.coe_mul]; norm_num

theorem lit_bot : Ideal.ofBits .f32 0xFF800000#32 = ⊥ := by
  simp [Ideal.ofBits, Ideal.ieee]

theorem lit_top : Ideal.ofBits .f32 0x7F800000#32 = ⊤ := by
  simp [Ideal.ofBits, Ideal.ieee]

/-- The root of the literal. -/
theorem sqrt_sgm : Ideal.sqrt (((8388692 / 8388608 : ℝ) : ℝ) : EReal) = (sgm : EReal) := by
  rw [Ideal.sqrt_coe, if_neg (by norm_num)]; rfl

theorem div_real (x : ℝ) {y : ℝ} (h : y ≠ 0) : Ideal.div (x : EReal) (y : EReal) = ((x / y : ℝ) : EReal) := by
  rw [Ideal.div_coe h, ← EReal.coe_mul]; congr 1; ring

theorem one_real : (1 : EReal) = ((1 : ℝ) : EReal) := rfl

theorem min_real (x y : ℝ) : min (x : EReal) (y : EReal) = ((min x y : ℝ) : EReal) :=
  (EReal.coe_strictMono.monotone.map_min).symm

/-- The largest of finitely many reals, taken from the bottom element, is the bottom element or a real. -/
theorem fold_max_real {ι : Type} (s : Finset ι) (f : ι → ℝ) (hs : s.Nonempty) :
    ∃ r : ℝ, s.fold max (⊥ : EReal) (fun k => (f k : EReal)) = (r : EReal) := by
  classical
  induction s using Finset.induction_on with
  | empty => exact absurd hs (by simp)
  | insert a s h ih =>
    rw [Finset.fold_insert h]
    by_cases e : s.Nonempty
    · obtain ⟨r, hr⟩ := ih e
      exact ⟨max (f a) r, by rw [hr]; exact (EReal.coe_strictMono.monotone.map_max).symm⟩
    · rw [Finset.not_nonempty_iff_eq_empty] at e
      subst e
      exact ⟨f a, by simp⟩

/-- A softmax does not change when every score is lowered by the same amount. -/
theorem softmax_shift {n : Nat} (f v : Fin n → ℝ) (r : ℝ) (hn : 0 < n) :
    (∑ s, v s * (Real.exp (f s - r) / ∑ s', Real.exp (f s' - r))) = (∑ s, Real.exp (f s) * v s) / ∑ s, Real.exp (f s) := by
  have : Nonempty (Fin n) := ⟨⟨0, hn⟩⟩
  have hp : 0 < ∑ s, Real.exp (f s) := Finset.sum_pos (fun s _ => Real.exp_pos _) Finset.univ_nonempty
  have hs : (∑ s', Real.exp (f s' - r)) = (∑ s, Real.exp (f s)) / Real.exp r := by
    rw [Finset.sum_div]
    exact Finset.sum_congr rfl fun s _ => Real.exp_sub (f s) r
  rw [hs, Finset.sum_div Finset.univ (fun s => Real.exp (f s) * v s)]
  refine Finset.sum_congr rfl fun s _ => ?_
  rw [Real.exp_sub]
  have := Real.exp_pos r
  field_simp

end Cert.Attn
-- ==== Proof.Attn.Block.lean ====
/- What the attention half of one block computes, over real inputs: the gelu of the normalised rows, the three projections, six heads and the merge. -/
module

public import proofs.«01_k».proof.Proof.Gen.KernelIdeal.Skeleton
public import proofs.«01_k».proof.Proof.Attn.Reals

@[expose] public section

set_option maxRecDepth 16384

noncomputable section

namespace Cert.Attn

open Idealize.ShloMosaic Cert.KernelIdeal Cert.KernelIdeal.Gen

/-- Rows times the rows of a weight. -/
def lin {n k m : Nat} (A : Fin n → Fin k → ℝ) (W : Fin m → Fin k → ℝ) (t : Fin n) (o : Fin m) : ℝ := ∑ c, A t c * W o c

theorem coe_lin_add {k : Nat} (x y : ℝ) (f g : Fin k → ℝ) :
    ((x + y + ∑ c, f c * g c : ℝ) : EReal) = (x : EReal) + (y : EReal) + ∑ c, (f c : EReal) * (g c : EReal) := by
  simp only [← EReal.coe_mul, coe_sum, ← EReal.coe_add]

/-- Gelu without its half, of rows scaled and shifted by column. -/
def actK (X : Fin 1024 → Fin 384 → ℝ) (SC B : Fin 384 → ℝ) (t : Fin 1024) (c : Fin 384) : ℝ := gk (X t c * SC c + B c)

/-- One entry of a head whose scores are clamped at forty: the weighted mean of the values `v` for the query `q`. -/
def headK (q : Fin 64 → ℝ) (k : Fin 1024 → Fin 64 → ℝ) (v : Fin 1024 → ℝ) : ℝ :=
  (∑ s, Real.exp (min (∑ e, q e * k s e) 40) * v s) / ∑ s, Real.exp (min (∑ e, q e * k s e) 40)

/-- Column `e` of the head that holds column `c`. -/
def hcol (c : Fin 384) (e : Fin 64) : Fin 384 := ⟨64 * (c.val / 64) + e.val, by omega⟩

/-- All six heads side by side. -/
def msgK (Q K V : Fin 1024 → Fin 384 → ℝ) (t : Fin 1024) (c : Fin 384) : ℝ :=
  headK (fun e => Q t (hcol c e)) (fun s e => K s (hcol c e)) (fun s => V s c)

section
set_option maxHeartbeats 2000000

variable {v0 : Vec Ideal S1x1024x384 .f32} {sc b : Vec Ideal S1x384 .f32} {X : Fin 1024 → Fin 384 → ℝ} {SC B : Fin 384 → ℝ}

/-- The activated rows. -/
theorem act_at (h0 : ∀ t c, v0 (ix3 0 t c) = (X t c : EReal)) (h1 : ∀ c, sc (ix2 0 c) = (SC c : EReal)) (h2 : ∀ c, b (ix2 0 c) = (B c : EReal))
    (t : Fin 1024) (c : Fin 384) : k0_pay4 v0 sc b (ix2 t c) = (actK X SC B t c : EReal) := by
  pointwise [k0_pay4, k0_pay2]
  simp only [h0, h1, h2, lit_rs2, ← EReal.coe_mul, ← EReal.coe_add, Ideal.erf_def, erf_real, one_real]
  rfl

variable {w : Vec Ideal S384x384 .bf16} {W : Fin 384 → Fin 384 → ℝ}

/-- The queries. -/
theorem q_at (h0 : ∀ t c, v0 (ix3 0 t c) = (X t c : EReal)) (h1 : ∀ c, sc (ix2 0 c) = (SC c : EReal)) (h2 : ∀ c, b (ix2 0 c) = (B c : EReal))
    (hw : ∀ o c, w (ix2 o c) = (W o c : EReal)) (t : Fin 1024) (o : Fin 384) :
    k0_pay6 v0 sc b w (ix2 t o) = (lin (actK X SC B) W t o : EReal) := by
  pointwise [k0_pay6]
  simp only [act_at h0 h1 h2, hw, ← EReal.coe_mul, coe_sum]
  rfl

/-- The keys are computed as the queries are. -/
theorem k_eq : k0_pay7 v0 sc b w = k0_pay6 v0 sc b w := rfl

/-- The values are computed as the queries are. -/
theorem v_eq : k0_pay8 v0 sc b w = k0_pay6 v0 sc b w := rfl

/-- The 64 columns of one head from column `n` on. -/
theorem slice_at (n : Nat) (q : FVec Ideal S1024x384 .bf16) (h : S1024x384.Slices ![0, n] S1024x64) (t : Fin 1024) (e : Fin 64) (hn : n + e.val < 384) :
    extractStridedSlice S1024x64 ![0, n] q h (ix2 t e) = q (ix2 t ⟨n + e.val, hn⟩) := by
  unfold extractStridedSlice
  refine congrArg q (funext fun a => Fin.ext ?_)
  match a with
  | ⟨0, _⟩ => exact Nat.zero_add _
  | ⟨1, _⟩ => rfl

/-- One head from its queries, keys and values: the scores, clamped and exponentiated, times the values beside a column of ones, and the division. -/
def headV (q k v : FVec Ideal S1024x64 .bf16) : FVec Ideal S1024x64 .bf16 :=
  k0_pay11 k0_pay5 v (matmul dot_S1024x64_S1024x64_S1024x1024_1_1_0_0_n_n none q k (constant S1024x1024 .f32 0x00000000#32)) (Scalar.ofBits .f32 0x42200000#32)

theorem headV_at {q k v : FVec Ideal S1024x64 .bf16} {Q K V : Fin 1024 → Fin 64 → ℝ} (hq : ∀ t e, q (ix2 t e) = (Q t e : EReal))
    (hk : ∀ t e, k (ix2 t e) = (K t e : EReal)) (hv : ∀ t e, v (ix2 t e) = (V t e : EReal)) (t : Fin 1024) (d : Fin 64) :
    headV q k v (ix2 t d) = (headK (Q t) K (fun s => V s d) : EReal) := by
  pointwise [headV, k0_pay11, k0_pay5]
  simp only [hq, hk, hv, lit_forty, ← EReal.coe_mul, coe_sum, min_real, Ideal.exp_coe]
  rw [div_real _ (Finset.sum_pos (fun s _ => Real.exp_pos _) ⟨0, Finset.mem_univ _⟩).ne']
  rfl

/-- The head of the 64 columns from `n` on. -/
def headAt (n : Nat) (h : S1024x384.Slices ![0, n] S1024x64) (q k v : FVec Ideal S1024x384 .bf16) : FVec Ideal S1024x64 .bf16 :=
  headV (extractStridedSlice S1024x64 ![0, n] q h) (extractStridedSlice S1024x64 ![0, n] k h) (extractStridedSlice S1024x64 ![0, n] v h)

variable {q k v : FVec Ideal S1024x384 .bf16} {Q K V : Fin 1024 → Fin 384 → ℝ}

theorem headAt_at (hq : ∀ t c, q (ix2 t c) = (Q t c : EReal)) (hk : ∀ t c, k (ix2 t c) = (K t c : EReal)) (hv : ∀ t c, v (ix2 t c) = (V t c : EReal))
    (n : Nat) (h : S1024x384.Slices ![0, n] S1024x64) (t : Fin 1024) (d : Fin 64) (c : Fin 384) (hn : n = 64 * (c.val / 64)) (hd : n + d.val = c.val) :
    headAt n h q k v (ix2 t d) = (msgK Q K V t c : EReal) := by
  subst hn
  have e : (⟨64 * (c.val / 64) + d.val, by omega⟩ : Fin 384) = c := Fin.ext hd
  refine (headV_at (Q := fun t e => Q t (hcol c e)) (K := fun t e => K t (hcol c e)) (V := fun t e => V t (hcol c e))
    (fun t e => (slice_at _ q h t e (by omega)).trans (hq t _)) (fun t e => (slice_at _ k h t e (by omega)).trans (hk t _))
    (fun t e => (slice_at _ v h t e (by omega)).trans (hv t _)) t d).trans ?_
  unfold msgK
  rw [show hcol c d = c from e]

/-- The six heads side by side. -/
def msgV (q k v : FVec Ideal S1024x384 .bf16) : FVec Ideal S1024x384 .bf16 :=
  concatenate S1024x384 1 [⟨S1024x64, headAt 0 slices_S1024x384_o0_0_S1024x64 q k v⟩, ⟨S1024x64, headAt 64 slices_S1024x384_o0_64_S1024x64 q k v⟩,
    ⟨S1024x64, headAt 128 slices_S1024x384_o0_128_S1024x64 q k v⟩, ⟨S1024x64, headAt 192 slices_S1024x384_o0_192_S1024x64 q k v⟩,
    ⟨S1024x64, headAt 256 slices_S1024x384_o0_256_S1024x64 q k v⟩, ⟨S1024x64, headAt 320 slices_S1024x384_o0_320_S1024x64 q k v⟩]
    concatenates_S1024x64_S1024x64_S1024x64_S1024x64_S1024x64_S1024x64_S1024x384_d1

theorem msgV_at (hq : ∀ t c, q (ix2 t c) = (Q t c : EReal)) (hk : ∀ t c, k (ix2 t c) = (K t c : EReal)) (hv : ∀ t c, v (ix2 t c) = (V t c : EReal))
    (t : Fin 1024) (c : Fin 384) : msgV q k v (ix2 t c) = (msgK Q K V t c : EReal) := by
  pointwise [msgV]
  split_ifs <;> exact headAt_at hq hk hv _ _ t _ c (by omega) (by dsimp only; omega)

/-- The merge of the six heads, with the rows themselves and the bias. -/
def mergeV (x : FVec Ideal S1024x384 .f32) (mb : FVec Ideal S1x384 .f32) (m : FVec Ideal S1024x384 .bf16) (w : Vec Ideal S384x384 .bf16) :
    FVec Ideal S1024x384 .f32 :=
  addf (addf x (broadcastTo S1024x384 mb broadcasts_S1x384_S1024x384))
    (matmul (φ₂ := .bf16) dot_S1024x384_S384x384_S1024x384_1_1_0_0_n_n none m (shapeCast S384x384 w shapeCasts_S384x384_S384x384) (constant S1024x384 .f32 0x00000000#32))

theorem mergeV_at {x : FVec Ideal S1024x384 .f32} {mb : FVec Ideal S1x384 .f32} {m : FVec Ideal S1024x384 .bf16} {MB : Fin 384 → ℝ}
    {M : Fin 1024 → Fin 384 → ℝ} (hx : ∀ t c, x (ix2 t c) = (X t c : EReal)) (hmb : ∀ c, mb (ix2 0 c) = (MB c : EReal))
    (hm : ∀ t c, m (ix2 t c) = (M t c : EReal)) (hw : ∀ o c, w (ix2 o c) = (W o c : EReal)) (t : Fin 1024) (o : Fin 384) :
    mergeV x mb m w (ix2 t o) = ((X t o + MB o + lin M W t o : ℝ) : EReal) := by
  pointwise [mergeV]
  simp only [hx, hmb, hm, hw, ← EReal.coe_mul, coe_sum, ← EReal.coe_add]
  rfl

/-- The printed merge is this one, of the printed heads. -/
theorem merge_eq (x : FVec Ideal S1024x384 .f32) (mb : FVec Ideal S1x384 .f32) (w : Vec Ideal S384x384 .bf16) (v46 : FVec Ideal S1024x64 .bf16)
    (h46 : v46 = headAt 0 slices_S1024x384_o0_0_S1024x64 q k v) :
    k0_pay16 x mb k0_pay5 q k v v46 (k0_pay12 k0_pay5 q k v) (k0_pay13 k0_pay5 q k v) (k0_pay14 q k) (k0_pay15 k0_pay5 v)
      (constant S1024x128 .f32 0x00000000#32) w = mergeV x mb (msgV q k v) w := by
  subst h46
  rfl

end

end Cert.Attn
-- ==== Proof.Attn.Mlp.lean ====
/- What one half of the hidden columns contributes to a block, over real inputs: the first product, the depthwise 3×3 window on the flat grid of rows, the second product. -/
module

public import proofs.«01_k».proof.Proof.Gen.KernelIdeal.Skeleton
public import proofs.«01_k».proof.Proof.Attn.Block

@[expose] public section

set_option maxRecDepth 16384

noncomputable section

namespace Cert.Attn

open Idealize.ShloMosaic Cert.KernelIdeal Cert.KernelIdeal.Gen

/-! ## Over the reals -/

/-- Row `n` of `Y`, zero past the last. -/
def padY (Y : Fin 1024 → Fin 768 → ℝ) (n : Nat) (o : Fin 768) : ℝ := if h : n < 1024 then Y ⟨n, h⟩ o else 0

/-- The left neighbour on the grid of width 32, zero past the border. -/
def leftY (Y : Fin 1024 → Fin 768 → ℝ) (t : Nat) (o : Fin 768) : ℝ := if 1 ≤ t % 32 then padY Y (t - 1) o else 0

/-- The right neighbour on the grid of width 32, zero past the border. -/
def rightY (Y : Fin 1024 → Fin 768 → ℝ) (t : Nat) (o : Fin 768) : ℝ := if t % 32 ≤ 30 then padY Y (t + 1) o else 0

/-- Three weighted neighbours in a row. -/
def rowY (Y : Fin 1024 → Fin 768 → ℝ) (a b c : Fin 768 → ℝ) (t : Nat) (o : Fin 768) : ℝ :=
  leftY Y t o * a o + padY Y t o * b o + rightY Y t o * c o

/-- The 3×3 window on the flat grid: the middle row, the row above and the row below. -/
def convK (Y : Fin 1024 → Fin 768 → ℝ) (W : Fin 9 → Fin 768 → ℝ) (t : Fin 1024) (o : Fin 768) : ℝ :=
  rowY Y (W 3) (W 4) (W 5) t o + (if 32 ≤ t.val then rowY Y (W 0) (W 1) (W 2) (t.val - 32) o else 0)
    + (if t.val + 32 < 1024 then rowY Y (W 6) (W 7) (W 8) (t.val + 32) o else 0)

/-- The hidden rows. -/
def hidK (X : Fin 1024 → Fin 384 → ℝ) (W1 : Fin 768 → Fin 384 → ℝ) (B1 : Fin 768 → ℝ) (t : Fin 1024) (o : Fin 768) : ℝ := gk (lin X W1 t o + B1 o)

/-- The hidden rows after the window. -/
def midK (Y : Fin 1024 → Fin 768 → ℝ) (W : Fin 9 → Fin 768 → ℝ) (B2 : Fin 768 → ℝ) (t : Fin 1024) (o : Fin 768) : ℝ := gk (convK Y W t o + B2 o)

/-! ## The vectors -/

/-- Where a row has a left neighbour. -/
def maskL : IVec S1024x1 1 :=
  k0_pay20 (iota .tc S1024x1 32 [0] iota_S1024x1_d0_w32) (Scalar.select (Scalar.cmpi .eq 32#32 0#32) 1#32 32#32) k0_pay18

/-- Where a row has a right neighbour. -/
def maskR : IVec S1024x1 1 :=
  k0_pay21 (iota .tc S1024x1 32 [0] iota_S1024x1_d0_w32) (Scalar.select (Scalar.cmpi .eq 32#32 0#32) 1#32 32#32) k0_pay18

/-- The rows shifted down by one, where there is a left neighbour. -/
def leftV (y : FVec Ideal S1024x768 .f32) : FVec Ideal S1024x768 .f32 :=
  select (broadcastTo S1024x768 (shapeCast S1024x1 maskL shapeCasts_S1024x1_S1024x1) broadcasts_S1024x1_S1024x768)
    (extractStridedSlice S1024x768 ![7, 0] (concatenate S1040x768 0 [⟨S8x768, k0_pay22 (F := Ideal)⟩, ⟨S1024x768, y⟩, ⟨S8x768, k0_pay22 (F := Ideal)⟩]
      concatenates_S8x768_S1024x768_S8x768_S1040x768_d0) slices_S1040x768_o7_0_S1024x768)
    (broadcast S1024x768 (Scalar.ofBits (F := Ideal) .f32 0x00000000#32))

/-- The rows shifted up by one, where there is a right neighbour. -/
def rightV (y : FVec Ideal S1024x768 .f32) : FVec Ideal S1024x768 .f32 :=
  select (broadcastTo S1024x768 (shapeCast S1024x1 maskR shapeCasts_S1024x1_S1024x1) broadcasts_S1024x1_S1024x768)
    (extractStridedSlice S1024x768 ![9, 0] (concatenate S1040x768 0 [⟨S8x768, k0_pay22 (F := Ideal)⟩, ⟨S1024x768, y⟩, ⟨S8x768, k0_pay22 (F := Ideal)⟩]
      concatenates_S8x768_S1024x768_S8x768_S1040x768_d0) slices_S1040x768_o9_0_S1024x768)
    (broadcast S1024x768 (Scalar.ofBits (F := Ideal) .f32 0x00000000#32))

/-- A row of weights, repeated. -/
def spread (r : Vec Ideal S1x768 .f32) : FVec Ideal S1024x768 .f32 :=
  broadcastTo S1024x768 (shapeCast S1x768 r shapeCasts_S1x768_S1x768) broadcasts_S1x768_S1024x768

/-- Three weighted neighbours in a row. -/
def rowV (y : FVec Ideal S1024x768 .f32) (a b c : Vec Ideal S1x768 .f32) : FVec Ideal S1024x768 .f32 :=
  addf (addf (mulf (leftV y) (spread a)) (mulf y (spread b))) (mulf (rightV y) (spread c))

/-- A weighted row between 32 rows of zeros on either side. -/
def zrowV (r : FVec Ideal S1024x768 .f32) : FVec Ideal S1088x768 .f32 :=
  concatenate S1088x768 0 [⟨S32x768, k0_pay23 (F := Ideal)⟩, ⟨S1024x768, r⟩, ⟨S32x768, k0_pay23 (F := Ideal)⟩] concatenates_S32x768_S1024x768_S32x768_S1088x768_d0

/-- The window, with its bias. -/
def convV (y : FVec Ideal S1024x768 .f32) (r : Fin 9 → Vec Ideal S1x768 .f32) (b2 : Vec Ideal S1x768 .f32) : FVec Ideal S1024x768 .f32 :=
  addf (addf (addf (rowV y (r 3) (r 4) (r 5))
      (extractStridedSlice S1024x768 ![0, 0] (zrowV (rowV y (r 0) (r 1) (r 2))) slices_S1088x768_o0_0_S1024x768))
      (extractStridedSlice S1024x768 ![64, 0] (zrowV (rowV y (r 6) (r 7) (r 8))) slices_S1088x768_o64_0_S1024x768))
    (spread b2)

/-- Gelu without its half, and the second product, added to what there is. -/
def outV (acc : FVec Ideal S1024x384 .f32) (u : FVec Ideal S1024x768 .f32) (w2 : Vec Ideal S384x768 .bf16) : FVec Ideal S1024x384 .f32 :=
  addf acc (matmul (φ₂ := .bf16) dot_S1024x768_S384x768_S1024x384_1_1_0_0_n_n none
    (truncf .bf16 (mulf u (addf (broadcast S1024x768 (Scalar.ofBits (F := Ideal) .f32 0x3F800000#32))
      (erf (mulf u (broadcast S1024x768 (Scalar.ofBits (F := Ideal) .f32 0x3F3504F3#32)))))) bitsLt_bf16_f32)
    (shapeCast S384x768 w2 shapeCasts_S384x768_S384x768) (constant S1024x384 .f32 0x00000000#32))

section
set_option maxHeartbeats 2000000

/-- The first half of the hidden columns, as printed. -/
theorem half0_eq (acc : FVec Ideal S1024x384 .f32) (xb : FVec Ideal S1024x384 .bf16) (w1 : Vec Ideal S768x384 .bf16) (b1 b2 : Vec Ideal S1x768 .f32)
    (r0 r1 r2 r3 r4 r5 r6 r7 r8 : Vec Ideal S1x768 .f32) (w2 : Vec Ideal S384x768 .bf16) (um : FVec Ideal S1024x768 .f32) (hum : um = leftV (k0_pay25 xb w1 b1)) :
    k0_pay33 acc (k0_pay29 maskR (k0_pay28 xb w1 b1)) (k0_pay30 maskR k0_pay23 (k0_pay25 xb w1 b1) um (k0_pay28 xb w1 b1) r0 r1 r2)
        (k0_pay31 maskR k0_pay23 (k0_pay25 xb w1 b1) um (k0_pay28 xb w1 b1) r6 r7 r8) (k0_pay32 (k0_pay25 xb w1 b1) um r3 r4) r5 b2 w2
      = outV acc (convV (k0_pay25 xb w1 b1) ![r0, r1, r2, r3, r4, r5, r6, r7, r8] b2) w2 := by
  subst hum
  rfl

/-- The second half, as printed. -/
theorem half1_eq (acc : FVec Ideal S1024x384 .f32) (xb : FVec Ideal S1024x384 .bf16) (w1 : Vec Ideal S768x384 .bf16) (b1 b2 : Vec Ideal S1x768 .f32)
    (r0 r1 r2 r3 r4 r5 r6 r7 r8 : Vec Ideal S1x768 .f32) (w2 : Vec Ideal S384x768 .bf16) (um : FVec Ideal S1024x768 .f32) (hum : um = leftV (k0_pay25 xb w1 b1)) :
    k0_pay1 acc (k0_pay37 maskR (k0_pay35 xb k0_pay22 w1 b1))
        (k0_pay38 maskR k0_pay23 (k0_pay34 xb w1 b1) (k0_pay35 xb k0_pay22 w1 b1) um r0 r1 r2)
        (k0_pay39 maskR k0_pay23 (k0_pay34 xb w1 b1) (k0_pay35 xb k0_pay22 w1 b1) um r6 r7 r8)
        (k0_pay40 um r3) (k0_pay41 (k0_pay34 xb w1 b1) r4) r5 b2 w2
      = shapeCast S1x1024x384 (outV acc (convV (k0_pay25 xb w1 b1) ![r0, r1, r2, r3, r4, r5, r6, r7, r8] b2) w2) shapeCasts_S1024x384_S1x1024x384 := by
  subst hum
  rfl

theorem maskL_at (t : Fin 1024) : maskL (ix2 t 0) = if 1 ≤ t.val % 32 then 1#1 else 0#1 := by
  pointwise [maskL, k0_pay20, k0_pay19, k0_pay18]
  revert t
  decide +kernel

theorem maskR_at (t : Fin 1024) : maskR (ix2 t 0) = if t.val % 32 ≤ 30 then 1#1 else 0#1 := by
  pointwise [maskR, k0_pay21, k0_pay19, k0_pay18]
  revert t
  decide +kernel

variable {y : FVec Ideal S1024x768 .f32} {Y : Fin 1024 → Fin 768 → ℝ}

theorem leftV_at (hy : ∀ t o, y (ix2 t o) = (Y t o : EReal)) (t : Fin 1024) (o : Fin 768) : leftV y (ix2 t o) = (leftY Y t o : EReal) := by
  pointwise [leftV, k0_pay22]
  rw [maskL_at]
  simp only [hy]
  unfold leftY padY
  have e : Scalar.select (1#1) = fun (x _ : EReal) => x := by funext x z; rfl
  have e' : Scalar.select (0#1) = fun (_ z : EReal) => z := by funext x z; rfl
  by_cases h : 1 ≤ t.val % 32
  · rw [if_pos h, if_pos h, e, dif_neg (by omega), dif_pos (by omega), dif_pos (by omega)]
    exact congrArg (fun s => (Y s o : EReal)) (Fin.ext (by show 7 + t.val - 8 = t.val - 1; omega))
  · rw [if_neg h, if_neg h, e', EReal.coe_zero]

theorem rightV_at (hy : ∀ t o, y (ix2 t o) = (Y t o : EReal)) (t : Fin 1024) (o : Fin 768) : rightV y (ix2 t o) = (rightY Y t o : EReal) := by
  pointwise [rightV, k0_pay22]
  rw [maskR_at]
  simp only [hy]
  unfold rightY padY
  have e : Scalar.select (1#1) = fun (x _ : EReal) => x := by funext x z; rfl
  have e' : Scalar.select (0#1) = fun (_ z : EReal) => z := by funext x z; rfl
  by_cases h : t.val % 32 ≤ 30
  · rw [if_pos h, if_pos h, e, dif_neg (by omega), dif_pos (by omega), dif_pos (by omega)]
    exact congrArg (fun s => (Y s o : EReal)) (Fin.ext (by show 9 + t.val - 8 = t.val + 1; omega))
  · rw [if_neg h, if_neg h, e', EReal.coe_zero]

theorem rowV_at (hy : ∀ t o, y (ix2 t o) = (Y t o : EReal)) {a b c : Vec Ideal S1x768 .f32} {A B C : Fin 768 → ℝ} (ha : ∀ o, a (ix2 0 o) = (A o : EReal))
    (hb : ∀ o, b (ix2 0 o) = (B o : EReal)) (hc : ∀ o, c (ix2 0 o) = (C o : EReal)) (t : Fin 1024) (o : Fin 768) :
    rowV y a b c (ix2 t o) = (rowY Y A B C t o : EReal) := by
  pointwise [rowV, spread]
  simp only [leftV_at hy, rightV_at hy, hy, ha, hb, hc, ← EReal.coe_mul, ← EReal.coe_add]
  simp only [rowY, padY, t.isLt, dif_pos]

theorem convV_at (hy : ∀ t o, y (ix2 t o) = (Y t o : EReal)) {r : Fin 9 → Vec Ideal S1x768 .f32} {W : Fin 9 → Fin 768 → ℝ}
    (hr : ∀ i o, r i (ix2 0 o) = (W i o : EReal)) {b2 : Vec Ideal S1x768 .f32} {B2 : Fin 768 → ℝ} (hb : ∀ o, b2 (ix2 0 o) = (B2 o : EReal)) (t : Fin 1024) (o : Fin 768) :
    convV y r b2 (ix2 t o) = ((convK Y W t o + B2 o : ℝ) : EReal) := by
  pointwise [convV, zrowV, spread, k0_pay23]
  simp only [rowV_at hy (hr _) (hr _) (hr _), hb]
  have e0 : (if h : t.val < 32 then (0 : EReal) else if h : t.val - 32 < 1024 then (rowY Y (W 0) (W 1) (W 2) (t.val - 32) o : EReal) else 0)
      = ((if 32 ≤ t.val then rowY Y (W 0) (W 1) (W 2) (t.val - 32) o else 0 : ℝ) : EReal) := by
    by_cases h : 32 ≤ t.val
    · rw [dif_neg (by omega), dif_pos (by omega), if_pos h]
    · rw [dif_pos (by omega), if_neg h, EReal.coe_zero]
  have e1 : (if h : 64 + t.val < 32 then (0 : EReal) else if h : 64 + t.val - 32 < 1024 then (rowY Y (W 6) (W 7) (W 8) (64 + t.val - 32) o : EReal) else 0)
      = ((if t.val + 32 < 1024 then rowY Y (W 6) (W 7) (W 8) (t.val + 32) o else 0 : ℝ) : EReal) := by
    have e2 : 64 + t.val - 32 = t.val + 32 := by omega
    rw [dif_neg (by omega), e2]
    by_cases h : t.val + 32 < 1024
    · rw [dif_pos h, if_pos h]
    · rw [dif_neg h, if_neg h, EReal.coe_zero]
  rw [e0, e1, ← EReal.coe_add, ← EReal.coe_add, ← EReal.coe_add]
  rfl

theorem outV_at {acc : FVec Ideal S1024x384 .f32} {u : FVec Ideal S1024x768 .f32} {w2 : Vec Ideal S384x768 .bf16} {U : Fin 1024 → Fin 768 → ℝ}
    {W2 : Fin 384 → Fin 768 → ℝ} (hu : ∀ t o, u (ix2 t o) = (U t o : EReal)) (hw : ∀ o c, w2 (ix2 o c) = (W2 o c : EReal)) (t : Fin 1024) (o : Fin 384) :
    outV acc u w2 (ix2 t o) = acc (ix2 t o) + (lin (fun t c => gk (U t c)) W2 t o : EReal) := by
  pointwise [outV]
  simp only [hu, hw, lit_rs2, one_real, ← EReal.coe_mul, Ideal.erf_def, erf_real, ← EReal.coe_add, coe_sum]
  rfl

/-- The hidden rows. -/
theorem hid_at {xb : FVec Ideal S1024x384 .bf16} {w1 : Vec Ideal S768x384 .bf16} {b1 : Vec Ideal S1x768 .f32} {X : Fin 1024 → Fin 384 → ℝ}
    {W1 : Fin 768 → Fin 384 → ℝ} {B1 : Fin 768 → ℝ} (hx : ∀ t c, xb (ix2 t c) = (X t c : EReal)) (hw : ∀ o c, w1 (ix2 o c) = (W1 o c : EReal))
    (hb : ∀ o, b1 (ix2 0 o) = (B1 o : EReal)) (t : Fin 1024) (o : Fin 768) : k0_pay25 xb w1 b1 (ix2 t o) = (hidK X W1 B1 t o : EReal) := by
  pointwise [k0_pay25]
  simp only [hx, hw, hb, lit_rs2, one_real, ← EReal.coe_mul, coe_sum, ← EReal.coe_add, Ideal.erf_def, erf_real]
  rfl

end

end Cert.Attn
-- ==== Proof.Attn.Body.lean ====
/- What one block leaves in the result, entry by entry, over real operands. -/
module

public import proofs.«01_k».proof.Proof.Gen.KernelIdeal.Frame
public import proofs.«01_k».proof.Proof.Attn.Mlp
public import Idealize.ShloMosaic.Lib.Pipeline.ValueKit

@[expose] public section

set_option maxRecDepth 16384

noncomputable section

namespace Cert.Attn

open Idealize.ShloMosaic Cert.KernelIdeal Cert.KernelIdeal.Gen

section
set_option maxHeartbeats 2000000

variable (x0 : Vec Ideal S1x1024x384 .f32) (x1 x2 x3 x4 : Vec Ideal S384x384 .bf16) (x5 : Vec Ideal S8x384 .f32)
  (x6 : Vec Ideal S1536x384 .bf16) (x7 : Vec Ideal S384x1536 .bf16) (x8 : Vec Ideal S16x1536 .f32)
  (x9 : Vec Ideal S8x1536 .f32) (x10 : Vec Ideal S8x384 .f32)

/-- A projection of the block's activated rows. -/
def projV (w : Vec Ideal S384x384 .bf16) : FVec Ideal S1024x384 .bf16 :=
  k0_pay6 (View.ld x0 r0_0) (View.ld x5 r0_1) (View.ld x5 r0_2) (View.ld w r0_4)

/-- The rows after the attention branch. -/
def rowsV : FVec Ideal S1024x384 .f32 :=
  mergeV (k0_pay2 (View.ld x0 r0_0)) (k0_pay3 (View.ld x5 r0_3))
    (msgV (projV x0 x5 x1) (projV x0 x5 x2) (projV x0 x5 x3)) (View.ld x4 r0_4)

/-- The first half of the hidden columns: its weights. -/
def taps0 : Fin 9 → Vec Ideal S1x768 .f32 :=
  ![View.ld x8 r0_7, View.ld x8 r0_8, View.ld x8 r0_9, View.ld x8 r0_13, View.ld x8 r0_14, View.ld x8 r0_15,
    View.ld x8 r0_10, View.ld x8 r0_11, View.ld x8 r0_12]

/-- The second half of the hidden columns: its weights. -/
def taps1 : Fin 9 → Vec Ideal S1x768 .f32 :=
  ![View.ld x8 r0_20, View.ld x8 r0_21, View.ld x8 r0_22, View.ld x8 r0_26, View.ld x8 r0_27, View.ld x8 r0_28,
    View.ld x8 r0_23, View.ld x8 r0_24, View.ld x8 r0_25]

/-- The block, from the rows after the attention branch. -/
def blockV (y : FVec Ideal S1024x384 .f32) : FVec Ideal S1024x384 .f32 :=
  outV (outV (k0_pay24 y (View.ld x10 r0_1))
      (convV (k0_pay25 (truncf .bf16 y bitsLt_bf16_f32) (View.ld x6 r0_5) (View.ld x9 r0_6)) (taps0 x8) (View.ld x9 r0_16)) (View.ld x7 r0_17))
    (convV (k0_pay25 (truncf .bf16 y bitsLt_bf16_f32) (View.ld x6 r0_18) (View.ld x9 r0_19)) (taps1 x8) (View.ld x9 r0_29)) (View.ld x7 r0_30)

theorem head_eq : k0_pay49 x0 x1 x2 x3 x4 x5 x6 x7 x8 x9 x10 = headAt 0 slices_S1024x384_o0_0_S1024x64 (projV x0 x5 x1) (projV x0 x5 x2) (projV x0 x5 x3) := by
  unfold k0_pay49
  rfl

theorem rows_eq : k0_pay16 (k0_pay42 x0 x1 x2 x3 x4 x5 x6 x7 x8 x9 x10) (k0_pay43 x0 x1 x2 x3 x4 x5 x6 x7 x8 x9 x10) (k0_pay44 x0 x1 x2 x3 x4 x5 x6 x7 x8 x9 x10) (k0_pay45 x0 x1 x2 x3 x4 x5 x6 x7 x8 x9 x10) (k0_pay46 x0 x1 x2 x3 x4 x5 x6 x7 x8 x9 x10) (k0_pay47 x0 x1 x2 x3 x4 x5 x6 x7 x8 x9 x10) (k0_pay49 x0 x1 x2 x3 x4 x5 x6 x7 x8 x9 x10)
    (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay48 x0 x1 x2 x3 x4 x5 x6 x7 x8 x9 x10) (View.ld x4 r0_4) = rowsV x0 x1 x2 x3 x4 x5 :=
  merge_eq (q := projV x0 x5 x1) (k := projV x0 x5 x2) (v := projV x0 x5 x3) _ _ _ _ (head_eq x0 x1 x2 x3 x4 x5 x6 x7 x8 x9 x10)

theorem narrow_eq : k0_pay55 x0 x1 x2 x3 x4 x5 x6 x7 x8 x9 x10 = truncf .bf16 (rowsV x0 x1 x2 x3 x4 x5) bitsLt_bf16_f32 :=
  congrArg (fun y : FVec Ideal S1024x384 .f32 => truncf .bf16 y bitsLt_bf16_f32) (rows_eq x0 x1 x2 x3 x4 x5 x6 x7 x8 x9 x10)

theorem left0_eq : k0_pay61 x0 x1 x2 x3 x4 x5 x6 x7 x8 x9 x10 = leftV (k0_pay25 (k0_pay55 x0 x1 x2 x3 x4 x5 x6 x7 x8 x9 x10) (View.ld x6 r0_5) (View.ld x9 r0_6)) := by
  unfold k0_pay61
  rfl

theorem left1_eq : k0_pay65 x0 x1 x2 x3 x4 x5 x6 x7 x8 x9 x10 = leftV (k0_pay25 (k0_pay55 x0 x1 x2 x3 x4 x5 x6 x7 x8 x9 x10) (View.ld x6 r0_18) (View.ld x9 r0_19)) := by
  unfold k0_pay65
  rfl

theorem out_eq : out0_11 x0 x1 x2 x3 x4 x5 x6 x7 x8 x9 x10
    = View.canon [⟨r0_0, shapeCast S1x1024x384 (blockV x6 x7 x8 x9 x10 (rowsV x0 x1 x2 x3 x4 x5)) shapeCasts_S1024x384_S1x1024x384⟩] := by
  unfold out0_11 blockV
  rw [← narrow_eq x0 x1 x2 x3 x4 x5 x6 x7 x8 x9 x10, ← rows_eq x0 x1 x2 x3 x4 x5 x6 x7 x8 x9 x10]
  refine congrArg (fun p => View.canon [(⟨r0_0, p⟩ : View.Piece (Elt Ideal) S1x1024x384 .f32)]) ?_
  refine (half1_eq _ (k0_pay55 x0 x1 x2 x3 x4 x5 x6 x7 x8 x9 x10) (View.ld x6 r0_18) (View.ld x9 r0_19) (View.ld x9 r0_29)
    _ _ _ _ _ _ _ _ _ _ (k0_pay65 x0 x1 x2 x3 x4 x5 x6 x7 x8 x9 x10) (left1_eq x0 x1 x2 x3 x4 x5 x6 x7 x8 x9 x10)).trans ?_
  refine congrArg (fun a => shapeCast S1x1024x384 (outV a _ _) shapeCasts_S1024x384_S1x1024x384) ?_
  exact half0_eq _ (k0_pay55 x0 x1 x2 x3 x4 x5 x6 x7 x8 x9 x10) (View.ld x6 r0_5) (View.ld x9 r0_6) (View.ld x9 r0_16)
    _ _ _ _ _ _ _ _ _ _ (k0_pay61 x0 x1 x2 x3 x4 x5 x6 x7 x8 x9 x10) (left0_eq x0 x1 x2 x3 x4 x5 x6 x7 x8 x9 x10)

/-! ## Entry by entry -/

/-- The numbers that one block's operands hold. -/
structure Opr where
  X : Fin 1024 → Fin 384 → ℝ
  SC : Fin 384 → ℝ
  B : Fin 384 → ℝ
  MB : Fin 384 → ℝ
  QW : Fin 384 → Fin 384 → ℝ
  KW : Fin 384 → Fin 384 → ℝ
  VW : Fin 384 → Fin 384 → ℝ
  MW : Fin 384 → Fin 384 → ℝ
  W1 : Fin 1536 → Fin 384 → ℝ
  B1 : Fin 1536 → ℝ
  DW : Fin 9 → Fin 1536 → ℝ
  B2 : Fin 1536 → ℝ
  W2 : Fin 384 → Fin 1536 → ℝ
  B3 : Fin 384 → EReal

/-- The operands hold the numbers of `O`. -/
structure Opr.Held (O : Opr) (x0 : Vec Ideal S1x1024x384 .f32) (x1 x2 x3 x4 : Vec Ideal S384x384 .bf16) (x5 : Vec Ideal S8x384 .f32)
    (x6 : Vec Ideal S1536x384 .bf16) (x7 : Vec Ideal S384x1536 .bf16) (x8 : Vec Ideal S16x1536 .f32)
    (x9 : Vec Ideal S8x1536 .f32) (x10 : Vec Ideal S8x384 .f32) : Prop where
  X : ∀ t c, x0 (ix3 0 t c) = (O.X t c : EReal)
  QW : ∀ o c, x1 (ix2 o c) = (O.QW o c : EReal)
  KW : ∀ o c, x2 (ix2 o c) = (O.KW o c : EReal)
  VW : ∀ o c, x3 (ix2 o c) = (O.VW o c : EReal)
  MW : ∀ o c, x4 (ix2 o c) = (O.MW o c : EReal)
  SC : ∀ c, x5 (ix2 0 c) = (O.SC c : EReal)
  B : ∀ c, x5 (ix2 1 c) = (O.B c : EReal)
  MB : ∀ c, x5 (ix2 2 c) = (O.MB c : EReal)
  W1 : ∀ o c, x6 (ix2 o c) = (O.W1 o c : EReal)
  W2 : ∀ o c, x7 (ix2 o c) = (O.W2 o c : EReal)
  DW : ∀ (i : Fin 9) o, x8 (ix2 ⟨i.val, by omega⟩ o) = (O.DW i o : EReal)
  B1 : ∀ c, x9 (ix2 0 c) = (O.B1 c : EReal)
  B2 : ∀ c, x9 (ix2 1 c) = (O.B2 c : EReal)
  B3 : ∀ c, x10 (ix2 0 c) = O.B3 c

namespace Opr

variable (O : Opr)

/-- A projection of the activated rows. -/
def prj (W : Fin 384 → Fin 384 → ℝ) : Fin 1024 → Fin 384 → ℝ := lin (actK O.X O.SC O.B) W

/-- The rows after the attention branch. -/
def rows (t : Fin 1024) (o : Fin 384) : ℝ :=
  O.X t o + O.MB o + lin (msgK (O.prj O.QW) (O.prj O.KW) (O.prj O.VW)) O.MW t o

/-- What the hidden columns `e` add. -/
def half (e : Fin 768 → Fin 1536) (t : Fin 1024) (o : Fin 384) : ℝ :=
  lin (midK (hidK O.rows (fun c => O.W1 (e c)) (fun c => O.B1 (e c))) (fun i c => O.DW i (e c)) (fun c => O.B2 (e c)))
    (fun o c => O.W2 o (e c)) t o

/-- The whole block. -/
def block (t : Fin 1024) (o : Fin 384) : EReal :=
  (O.rows t o : EReal) + O.B3 o + (O.half (fun c => ⟨c.val, by omega⟩) t o : EReal) + (O.half (fun c => ⟨768 + c.val, by omega⟩) t o : EReal)

end Opr

variable {x0 x1 x2 x3 x4 x5 x6 x7 x8 x9 x10} {O : Opr} (H : O.Held x0 x1 x2 x3 x4 x5 x6 x7 x8 x9 x10)
include H

theorem proj_at {w : Vec Ideal S384x384 .bf16} {W : Fin 384 → Fin 384 → ℝ} (hw : ∀ o c, w (ix2 o c) = (W o c : EReal))
    (t : Fin 1024) (o : Fin 384) : projV x0 x5 w (ix2 t o) = (O.prj W t o : EReal) := by
  refine q_at (X := O.X) (SC := O.SC) (B := O.B) (W := W) ?_ ?_ ?_ ?_ t o
  · intro t c; pointwise; exact H.X t c
  · intro c; pointwise; exact H.SC c
  · intro c; pointwise; exact H.B c
  · intro o c; pointwise; exact hw o c

theorem rows_at (t : Fin 1024) (o : Fin 384) : rowsV x0 x1 x2 x3 x4 x5 (ix2 t o) = (O.rows t o : EReal) := by
  refine mergeV_at (X := O.X) (MB := O.MB) (W := O.MW) ?_ ?_
    (msgV_at (proj_at H H.QW) (proj_at H H.KW) (proj_at H H.VW)) ?_ t o
  · intro t c; pointwise [k0_pay2]; exact H.X t c
  · intro c; pointwise [k0_pay3]; exact H.MB c
  · intro o c; pointwise; exact H.MW o c

theorem taps0_at (i : Fin 9) (o : Fin 768) : taps0 x8 i (ix2 0 o) = (O.DW i ⟨o.val, by omega⟩ : EReal) := by
  rw [← H.DW]
  fin_cases i <;> (unfold taps0; pointwise)

theorem taps1_at (i : Fin 9) (o : Fin 768) : taps1 x8 i (ix2 0 o) = (O.DW i ⟨768 + o.val, by omega⟩ : EReal) := by
  rw [← H.DW]
  fin_cases i <;> (unfold taps1; pointwise)

theorem block_at (t : Fin 1024) (o : Fin 384) :
    blockV x6 x7 x8 x9 x10 (rowsV x0 x1 x2 x3 x4 x5) (ix2 t o) = O.block t o := by
  have hr := rows_at H
  generalize rowsV x0 x1 x2 x3 x4 x5 = y at hr
  have hn : ∀ t c, (truncf .bf16 y bitsLt_bf16_f32 : FVec Ideal S1024x384 .bf16) (ix2 t c) = (O.rows t c : EReal) := by
    intro t c; pointwise; exact hr t c
  unfold blockV
  rw [outV_at (W2 := fun o c => O.W2 o ⟨768 + c.val, by omega⟩)
    (convV_at (B2 := fun c => O.B2 ⟨768 + c.val, by omega⟩)
      (hid_at (W1 := fun c => O.W1 ⟨768 + c.val, by omega⟩) (B1 := fun c => O.B1 ⟨768 + c.val, by omega⟩) hn ?_ ?_) (taps1_at H) ?_) ?_,
    outV_at (W2 := fun o c => O.W2 o ⟨c.val, by omega⟩)
    (convV_at (B2 := fun c => O.B2 ⟨c.val, by omega⟩)
      (hid_at (W1 := fun c => O.W1 ⟨c.val, by omega⟩) (B1 := fun c => O.B1 ⟨c.val, by omega⟩) hn ?_ ?_) (taps0_at H) ?_) ?_]
  · pointwise [k0_pay24]
    rw [hr, H.B3]
    rfl
  · intro o c; pointwise; exact H.W1 _ c
  · intro c; pointwise; exact H.B1 _
  · intro c; pointwise; exact H.B2 _
  · intro o c; pointwise; exact H.W2 o _
  · intro o c; pointwise; exact H.W1 _ c
  · intro c; pointwise; exact H.B1 _
  · intro c; pointwise; exact H.B2 _
  · intro o c; pointwise; exact H.W2 o _

/-- What one block leaves, at a row and a column. -/
theorem out_at (t : Fin 1024) (o : Fin 384) : out0_11 x0 x1 x2 x3 x4 x5 x6 x7 x8 x9 x10 (ix3 0 t o) = O.block t o := by
  rw [out_eq, ← block_at H]
  generalize blockV x6 x7 x8 x9 x10 (rowsV x0 x1 x2 x3 x4 x5) = y
  frame_out
  pointwise

end

end Cert.Attn

end
-- ==== Proof.Attn.Spec.lean ====
/- What the block computes, in real numbers and in the image's own coordinates. -/
module

public import proofs.«01_k».proof.Proof.Gen.ReferenceIdeal.Run
public import proofs.«01_k».proof.Proof.Attn.Reals

@[expose] public section

noncomputable section

namespace Cert.Attn

open Idealize.ShloMosaic Cert.ReferenceIdeal

/-- The sixteen arguments whose entries are real numbers. -/
structure Par where
  x : Fin 4 → Fin 384 → Fin 32 → Fin 32 → ℝ
  g0 : Fin 384 → ℝ
  b0 : Fin 384 → ℝ
  qw : Fin 384 → Fin 384 → ℝ
  kw : Fin 384 → Fin 384 → ℝ
  vw : Fin 384 → Fin 384 → ℝ
  mw : Fin 384 → Fin 384 → ℝ
  mb : Fin 384 → ℝ
  w1 : Fin 1536 → Fin 384 → ℝ
  g1 : Fin 1536 → ℝ
  b1 : Fin 1536 → ℝ
  dw : Fin 1536 → Fin 3 → Fin 3 → ℝ
  g2 : Fin 1536 → ℝ
  b2 : Fin 1536 → ℝ
  w2 : Fin 384 → Fin 1536 → ℝ
  g3 : Fin 384 → ℝ

/-- The argument arrays hold the numbers of `P`. -/
structure Holds (P : Par) (a0 : FVec Ideal S4x384x32x32 .f32) (a1 a2 : FVec Ideal S384 .f32)
    (a3 a4 a5 a6 : FVec Ideal S384x384 .f32) (a7 : FVec Ideal S384 .f32)
    (a8 : FVec Ideal S1536x384 .f32) (a9 a10 : FVec Ideal S1536 .f32)
    (a11 : FVec Ideal S1536x1x3x3 .f32) (a12 a13 : FVec Ideal S1536 .f32)
    (a14 : FVec Ideal S384x1536 .f32) (a15 : FVec Ideal S384 .f32) : Prop where
  x : ∀ n c h w, a0 (ix4 n c h w) = (P.x n c h w : EReal)
  g0 : ∀ c, a1 (ix1 c) = (P.g0 c : EReal)
  b0 : ∀ c, a2 (ix1 c) = (P.b0 c : EReal)
  qw : ∀ o c, a3 (ix2 o c) = (P.qw o c : EReal)
  kw : ∀ o c, a4 (ix2 o c) = (P.kw o c : EReal)
  vw : ∀ o c, a5 (ix2 o c) = (P.vw o c : EReal)
  mw : ∀ o c, a6 (ix2 o c) = (P.mw o c : EReal)
  mb : ∀ c, a7 (ix1 c) = (P.mb c : EReal)
  w1 : ∀ o c, a8 (ix2 o c) = (P.w1 o c : EReal)
  g1 : ∀ c, a9 (ix1 c) = (P.g1 c : EReal)
  b1 : ∀ c, a10 (ix1 c) = (P.b1 c : EReal)
  dw : ∀ o i j, a11 (ix4 o 0 i j) = (P.dw o i j : EReal)
  g2 : ∀ c, a12 (ix1 c) = (P.g2 c : EReal)
  b2 : ∀ c, a13 (ix1 c) = (P.b2 c : EReal)
  w2 : ∀ o c, a14 (ix2 o c) = (P.w2 o c : EReal)
  g3 : ∀ c, a15 (ix1 c) = (P.g3 c : EReal)

/-- A position of the image from its number in row-major order. -/
def hOf (t : Fin 1024) : Fin 32 := ⟨t.val / 32, by omega⟩
@[inherit_doc hOf] def wOf (t : Fin 1024) : Fin 32 := ⟨t.val % 32, by omega⟩
/-- The number of a position. -/
def tok (h w : Fin 32) : Fin 1024 := ⟨h.val * 32 + w.val, by omega⟩

namespace Par

variable (P : Par)

/-- The first normalisation. -/
def bn0 (n : Fin 4) (c : Fin 384) (h w : Fin 32) : ℝ := P.g0 c * P.x n c h w / sgm + P.b0 c

/-- A pointwise projection of the activated input. -/
def proj (W : Fin 384 → Fin 384 → ℝ) (n : Fin 4) (o : Fin 384) (h w : Fin 32) : ℝ :=
  ∑ c, W o c * gelu (P.bn0 n c h w)

/-- The attention scores of head `a`: query position `l`, key position `s`. -/
def score (n : Fin 4) (l s : Fin 1024) (a : Fin 6) : ℝ :=
  1 / 8 * ∑ d : Fin 64, P.proj P.kw n ⟨a.val * 64 + d.val, by omega⟩ (hOf s) (wOf s)
    * P.proj P.qw n ⟨a.val * 64 + d.val, by omega⟩ (hOf l) (wOf l)

/-- The attended values of feature `o` at position `l`. -/
def msg (n : Fin 4) (o : Fin 384) (l : Fin 1024) : ℝ :=
  (∑ s, Real.exp (P.score n l s ⟨o.val / 64, by omega⟩) * P.proj P.vw n o (hOf s) (wOf s))
    / ∑ s, Real.exp (P.score n l s ⟨o.val / 64, by omega⟩)

/-- The input after the attention branch is added. -/
def x1 (n : Fin 4) (c : Fin 384) (h w : Fin 32) : ℝ :=
  P.x n c h w + (∑ o, P.mw c o * P.msg n o (tok h w) + P.mb c)

/-- The second normalisation, on the widened features. -/
def bn1 (n : Fin 4) (o : Fin 1536) (h w : Fin 32) : ℝ :=
  P.g1 o * (∑ c, P.w1 o c * P.x1 n c h w) / sgm + P.b1 o

/-- The widened features with a border of zeros, by the coordinates of the bordered image. -/
def bord (n : Fin 4) (o : Fin 1536) (h w : ℕ) : ℝ :=
  if hw : (1 ≤ h ∧ h - 1 < 32) ∧ 1 ≤ w ∧ w - 1 < 32 then
    gelu (P.bn1 n o ⟨h - 1, hw.1.2⟩ ⟨w - 1, hw.2.2⟩)
  else 0

/-- The depthwise convolution with a 3 by 3 window. -/
def conv (n : Fin 4) (o : Fin 1536) (h w : Fin 32) : ℝ :=
  P.bord n o h w * P.dw o 0 0 + P.bord n o h (1 + w) * P.dw o 0 1
    + P.bord n o h (2 + w) * P.dw o 0 2
    + P.bord n o (1 + h) w * P.dw o 1 0 + P.bord n o (1 + h) (1 + w) * P.dw o 1 1
    + P.bord n o (1 + h) (2 + w) * P.dw o 1 2
    + P.bord n o (2 + h) w * P.dw o 2 0 + P.bord n o (2 + h) (1 + w) * P.dw o 2 1
    + P.bord n o (2 + h) (2 + w) * P.dw o 2 2

/-- The third normalisation. -/
def bn2 (n : Fin 4) (o : Fin 1536) (h w : Fin 32) : ℝ :=
  P.g2 o * P.conv n o h w / sgm + P.b2 o

/-- The scaled output of the second branch, without its offset. -/
def tail (n : Fin 4) (c : Fin 384) (h w : Fin 32) : ℝ :=
  P.g3 c * (∑ o, P.w2 c o * gelu (P.bn2 n o h w)) / sgm

/-- The block's result. The last offset may be any extended real. -/
def out (b3 : Fin 384 → EReal) (n : Fin 4) (c : Fin 384) (h w : Fin 32) : EReal :=
  (P.x1 n c h w : EReal) + ((P.tail n c h w : EReal) + b3 c)

end Par

end Cert.Attn

end
-- ==== Proof.Attn.Array.lean ====
/- The result array of the kernel, from its blocks, and what the host line after it leaves. -/
module

public import proofs.«01_k».proof.Proof.Attn.Body
public import proofs.«01_k».proof.Proof.Attn.Spec
public import Idealize.ShloMosaic.Lib.Pipeline.ValueKit

@[expose] public section

set_option maxRecDepth 16384

noncomputable section

namespace Cert.Attn

open Idealize.ShloMosaic Idealize.SL.Sem Cert.KernelIdeal Cert.KernelIdeal.Gen

section
set_option maxHeartbeats 2000000

variable (m : (ℓ : Loc nD τ sig) → Buf (Elt Ideal) ℓ) (c : Dev nD)

/-- Which block each window takes at a point. -/
theorem idx : ∀ t : Fin cfg0.N, win0_0.index t = ![t.val, 0, 0] ∧ win0_11.index t = ![t.val, 0, 0]
    ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

theorem arr_eq (O : Fin 4 → Opr)
    (H : ∀ t : Fin cfg0.N, (O t).Held (iblk m c 0 t) (iblk m c 1 t) (iblk m c 2 t) (iblk m c 3 t) (iblk m c 4 t) (iblk m c 5 t)
      (iblk m c 6 t) (iblk m c 7 t) (iblk m c 8 t) (iblk m c 9 t) (iblk m c 10 t)) :
    (dats m 0 c).arrAt 11 cfg0.N = fun y : S4x1024x384.Idx => (O (y 0)).block (y 1) (y 2) := by
  refine (dats m 0 c).arrAt_eq_of_covers 11 _ (by decide +kernel) fun t _ y => ?_
  blk_simp
  rw [after0_11]
  obtain ⟨-, h11, -⟩ := idx t
  have e0 : (win0_11.blk t).view.emb y 0 = t := Fin.ext (by blk_simp [h11])
  have e1 : (win0_11.blk t).view.emb y 1 = y 1 := Fin.ext (by blk_simp [h11])
  have e2 : (win0_11.blk t).view.emb y 2 = y 2 := Fin.ext (by blk_simp [h11])
  have ey : y = ix3 0 (y 1) (y 2) := by
    funext a
    match a with
    | ⟨0, _⟩ => exact Subsingleton.elim (α := Fin 1) _ _
    | ⟨1, _⟩ => rfl
    | ⟨2, _⟩ => rfl
  rw [e0, e1, e2]
  exact (congrArg _ ey).trans (out_at (H t) (y 1) (y 2))

theorem blk0 (t : Fin cfg0.N) (i : Fin 1024) (j : Fin 384) : iblk m c 0 t (ix3 0 i j) = V m c main_call0_v3 (ix3 t i j) := by
  have h := (idx t).1
  blk_simp [iblk]
  refine congrArg _ ?_
  blk_ext [h]
theorem blk1 (t : Fin cfg0.N) : iblk m c 1 t = V m c main_call0_v6 := by blk_ext! [iblk, idx t]
theorem blk2 (t : Fin cfg0.N) : iblk m c 2 t = V m c main_call0_v9 := by blk_ext! [iblk, idx t]
theorem blk3 (t : Fin cfg0.N) : iblk m c 3 t = V m c main_call0_v12 := by blk_ext! [iblk, idx t]
theorem blk4 (t : Fin cfg0.N) : iblk m c 4 t = V m c main_call0_v13 := by blk_ext! [iblk, idx t]
theorem blk5 (t : Fin cfg0.N) : iblk m c 5 t = V m c main_call0_v23 := by blk_ext! [iblk, idx t]
theorem blk6 (t : Fin cfg0.N) : iblk m c 6 t = V m c main_call0_v30 := by blk_ext! [iblk, idx t]
theorem blk7 (t : Fin cfg0.N) : iblk m c 7 t = V m c main_call0_v39 := by blk_ext! [iblk, idx t]
theorem blk8 (t : Fin cfg0.N) : iblk m c 8 t = V m c main_call0_v52 := by blk_ext! [iblk, idx t]
theorem blk9 (t : Fin cfg0.N) : iblk m c 9 t = V m c main_call0_v57 := by blk_ext! [iblk, idx t]
theorem blk10 (t : Fin cfg0.N) : iblk m c 10 t = V m c main_call0_v60 := by blk_ext! [iblk, idx t]

/-- The operations after the kernel: the array's axes back in the image's order. -/
theorem tail_eq : Pipeline.afterTail₀ cfgs (dats m) 0 (V0 m) [hostOps1] c main_v0
    = shapeCast S4x384x32x32 (transpose S4x384x1024 [0, 2, 1] ((dats m 0 c).arrAt 11 cfg0.N : FVec Ideal S4x1024x384 .f32) transposes_S4x1024x384_S4x384x1024_0_2_1) shapeCasts_S4x384x1024_S4x384x32x32 := by
  unfold Pipeline.afterTail₀
  simp only [hostOps1, List.flatten_cons, List.flatten_nil, List.append_nil]
  entry_read
  refine congrArg (fun a : FVec Ideal S4x1024x384 .f32 => shapeCast S4x384x32x32 (transpose S4x384x1024 [0, 2, 1] a transposes_S4x1024x384_S4x384x1024_0_2_1) shapeCasts_S4x384x1024_S4x384x32x32) ?_
  exact Pipeline.withArrays_arr (cfgs 0).spec (by decide) c (V0 m c) (fun w => (dats m 0 c).arrAt w (cfgs 0).N) 11

/-- The result, entry by entry. -/
theorem tail_at (O : Fin 4 → Opr)
    (H : ∀ t : Fin cfg0.N, (O t).Held (iblk m c 0 t) (iblk m c 1 t) (iblk m c 2 t) (iblk m c 3 t) (iblk m c 4 t) (iblk m c 5 t)
      (iblk m c 6 t) (iblk m c 7 t) (iblk m c 8 t) (iblk m c 9 t) (iblk m c 10 t)) (n : Fin 4) (o : Fin 384) (h w : Fin 32) :
    (Pipeline.afterTail₀ cfgs (dats m) 0 (V0 m) [hostOps1] c main_v0 : FVec Ideal S4x384x32x32 .f32) (ix4 n o h w) = (O n).block (tok h w) o := by
  rw [tail_eq, arr_eq m c O H]
  pointwise
  rfl

end

end Cert.Attn

end
-- ==== Proof.Attn.Scatter.lean ====
/- The two ways in which the host sets rows of a table, read entry by entry: one row, and a run of rows from the top. -/
module

public import Idealize.ShloMosaic.Lib.Routing.OpsSet

@[expose] public section

noncomputable section

namespace Cert.Attn

open Idealize.ShloMosaic Idealize.ShloMosaic.Routing Idealize.ShloMosaic.ValueIdx

variable {α : Type} {R C U : Nat}

/-- The index word that every update reads. -/
theorem word_at {u : Shape} (d : ScatterDims (shape2 R C) (shape1 1) u) (hsd : d.scatterDimsToOperandDims = [0])
    (idx : IVec (shape1 1) 32) (j : u.Idx) : d.start j idx 0 = (idx (ix1 0)).toInt := by
  unfold ScatterDims.start
  rw [dif_pos (by rw [hsd]; exact List.mem_singleton.2 rfl)]
  refine congrArg (fun i => (idx i).toInt) (funext fun b => ?_)
  match b with
  | ⟨0, _⟩ => exact Subsingleton.elim (α := Fin 1) _ _

/-- The second axis has no start. -/
theorem no_word {u : Shape} (d : ScatterDims (shape2 R C) (shape1 1) u) (hsd : d.scatterDimsToOperandDims = [0])
    (idx : IVec (shape1 1) 32) (j : u.Idx) : d.start j idx 1 = 0 := by
  unfold ScatterDims.start
  rw [dif_neg fun h => by rw [hsd] at h; exact absurd (List.mem_singleton.1 h) (by decide : (1 : Fin 2) ≠ 0)]

/-- Where entry `j` of a new row `k` goes. -/
theorem row_lands (d : ScatterDims (shape2 R C) (shape1 1) (shape1 C)) (hiw : d.insertedWindowDims = [0])
    (hsd : d.scatterDimsToOperandDims = [0]) (idx : IVec (shape1 1) 32) (k : Nat) (hk : (idx (ix1 0)).toInt = (k : Int))
    (j : Fin C) (r : Fin R) (c : Fin C) : d.resultIdx? (ix1 j) idx = some (ix2 r c) ↔ k = r.val ∧ j.val = c.val := by
  have w0 : d.window (ix1 j) 0 = 0 := by
    unfold ScatterDims.window
    rw [dif_neg fun h => (of_decide_eq_true (List.mem_filter.1 h).2) (by rw [hiw]; exact List.mem_singleton.2 rfl)]
  have w1 : d.window (ix1 j) 1 = j.val := by
    unfold ScatterDims.window
    have hkept : d.sKept = [1] := by
      show (shape2 R C).kept d.insertedWindowDims = _
      rw [hiw]
      rfl
    rw [dif_pos (by rw [hkept]; exact List.mem_singleton.2 rfl)]
    have q : ∀ X : Fin 1, (ix1 j X).val = j.val := fun X => by
      obtain rfl : X = 0 := Subsingleton.elim _ _
      rfl
    exact q _
  rw [resultIdx?_ix2, word_at d hsd, no_word d hsd, w0, w1, hk]
  omega

/-- One row set. -/
theorem row_set (d : ScatterDims (shape2 R C) (shape1 1) (shape1 C)) (hiw : d.insertedWindowDims = [0])
    (hsd : d.scatterDimsToOperandDims = [0]) (x : (shape2 R C).Idx → α) (idx : IVec (shape1 1) 32) (upd : (shape1 C).Idx → α)
    (k : Nat) (hk : (idx (ix1 0)).toInt = (k : Int)) (r : Fin R) (c : Fin C) :
    Host.scatter d (fun _ b => b) x idx upd (ix2 r c) = if r.val = k then upd (ix1 c) else x (ix2 r c) := by
  have lands : ∀ j : (shape1 C).Idx, d.resultIdx? j idx = some (ix2 r c) → k = r.val ∧ (j 0).val = c.val := fun j hj =>
    (row_lands d hiw hsd idx k hk (j 0) r c).1 ((congrArg (fun t => d.resultIdx? t idx) (eq_ix1 j).symm).trans hj)
  by_cases h : r.val = k
  · rw [if_pos h]
    refine scatter_set_hit d x idx upd _ _ (fun j hj => ?_) (ix1 c) ((row_lands d hiw hsd idx k hk c r c).2 ⟨h.symm, rfl⟩)
    rw [eq_ix1 j]
    exact congrArg (fun t => upd (ix1 t)) (Fin.ext (lands j hj).2)
  · rw [if_neg h]
    exact scatter_set_miss d x idx upd _ fun j hj => h (lands j hj).1.symm

/-- Where entry `(i, j)` of a run of rows from row `k` on goes. -/
theorem rows_lands (d : ScatterDims (shape2 R C) (shape1 1) (shape2 U C)) (huw : d.updateWindowDims = [0, 1])
    (hiw : d.insertedWindowDims = []) (hsd : d.scatterDimsToOperandDims = [0]) (idx : IVec (shape1 1) 32) (k : Nat)
    (hk : (idx (ix1 0)).toInt = (k : Int)) (i : Fin U) (j : Fin C) (r : Fin R) (c : Fin C) :
    d.resultIdx? (ix2 i j) idx = some (ix2 r c) ↔ k + i.val = r.val ∧ j.val = c.val := by
  have hkept : d.sKept = [0, 1] := by
    show (shape2 R C).kept d.insertedWindowDims = _
    rw [hiw]
    rfl
  have e : ∀ (l : List (Fin 2)) (n : ℕ) (h : n < l.length) (m : Fin 2), l = [0, 1] → n = m.val → l[n]'h = m := by
    intro l n h m hl hn
    subst hl hn
    fin_cases m <;> rfl
  have hw : ∀ q : Fin 2, d.window (ix2 i j) q = (ix2 i j q).val := by
    intro q
    have hq : q ∈ d.sKept := by rw [hkept]; fin_cases q <;> simp
    unfold ScatterDims.window
    rw [dif_pos hq]
    have hi : d.sKept.idxOf q = q.val := by rw [hkept]; fin_cases q <;> rfl
    exact congrArg (fun a : Fin 2 => (ix2 i j a).val) (e _ _ _ _ huw hi)
  rw [resultIdx?_ix2, word_at d hsd, no_word d hsd, hw, hw, hk]
  show (k : Int) + (i.val : Int) = _ ∧ (0 : Int) + (j.val : Int) = _ ↔ _
  omega

/-- A run of rows set, from the top: a row inside the run. -/
theorem rows_set (d : ScatterDims (shape2 R C) (shape1 1) (shape2 U C)) (huw : d.updateWindowDims = [0, 1])
    (hiw : d.insertedWindowDims = []) (hsd : d.scatterDimsToOperandDims = [0]) (x : (shape2 R C).Idx → α)
    (idx : IVec (shape1 1) 32) (upd : (shape2 U C).Idx → α) (hk : (idx (ix1 0)).toInt = 0) (i : Fin U) (hi : i.val < R) (c : Fin C) :
    Host.scatter d (fun _ b => b) x idx upd (ix2 ⟨i.val, hi⟩ c) = upd (ix2 i c) := by
  refine scatter_set_hit d x idx upd _ _ (fun j hj => ?_) (ix2 i c)
    ((rows_lands d huw hiw hsd idx 0 hk i c ⟨i.val, hi⟩ c).2 ⟨Nat.zero_add _, rfl⟩)
  have h := (rows_lands d huw hiw hsd idx 0 hk (j 0) (j 1) ⟨i.val, hi⟩ c).1
    ((congrArg (fun t => d.resultIdx? t idx) (eq_ix2 j).symm).trans hj)
  have e0 : j 0 = i := Fin.ext ((Nat.zero_add _).symm.trans h.1)
  have e1 : j 1 = c := Fin.ext h.2
  exact congrArg upd ((eq_ix2 j).trans (by rw [e0, e1]; rfl))

end Cert.Attn

end
-- ==== Proof.Attn.Host.lean ====
/- What the host line hands to the kernel: the folded weights and the packed tables, entry by entry. -/
module

public import proofs.«01_k».proof.Proof.Gen.KernelIdeal.Frame
public import proofs.«01_k».proof.Proof.Attn.Scatter
public import proofs.«01_k».proof.Proof.Attn.Body
public import proofs.«01_k».proof.Proof.Attn.Spec
public import Idealize.ShloMosaic.Lib.Pipeline.ValueKit
public import Idealize.ShloMosaic.Lib.Tactic.CleanTypes

@[expose] public section

set_option maxRecDepth 16384

noncomputable section

namespace Cert.Attn

open Idealize.ShloMosaic Idealize.SL.Sem Cert.KernelIdeal Cert.KernelIdeal.Gen

/-- The reciprocal of the normalisers' root. -/
def invS : FVec Ideal S_ .f32 := Host.divf (constant S_ .f32 0x3F800000#32) (Host.sqrt (constant S_ .f32 0x3F800054#32))

/-- The index word `k`. -/
def at1 (k : BitVec 32) : IVec S1 32 := broadcastInDim S1 ![] bcast_S_S1 (constantI S_ 32 k)

/-- The rows of tokens. -/
def hX (a : FVec Ideal S4x384x32x32 .f32) : FVec Ideal S4x1024x384 .f32 :=
  transpose S4x1024x384 [0, 2, 1] (shapeCast S4x384x1024 a shapeCasts_S4x384x32x32_S4x384x1024) transposes_S4x384x1024_S4x1024x384_0_2_1

/-- A projection scaled by a literal. -/
def hW (k : BitVec 32) (a : FVec Ideal S384x384 .f32) : FVec Ideal S384x384 .bf16 :=
  truncf .bf16 (mulf a (broadcastInDim S384x384 ![] bcast_S_S384x384 (constant S_ .f32 k))) bitsLt_bf16_f32

/-- The table of the first normaliser's scale and offset and of the merge's offset. -/
def hVec (g0 b0 mb : FVec Ideal S384 .f32) : FVec Ideal S8x384 .f32 :=
  Host.scatter scatter_S8x384_S1_S384_0_0_0_0 (fun _ b => b)
    (Host.scatter scatter_S8x384_S1_S384_0_0_0_0 (fun _ b => b)
      (Host.scatter scatter_S8x384_S1_S384_0_0_0_0 (fun _ b => b)
        (broadcastInDim S8x384 ![] bcast_S_S8x384 (constant S_ .f32 0x00000000#32)) (at1 0#32)
        (mulf g0 (broadcastInDim S384 ![] bcast_S_S384 (id invS))))
      (at1 1#32) b0) (at1 2#32) mb

/-- The first hidden weight with its normaliser's scale. -/
def hW1 (w : FVec Ideal S1536x384 .f32) (g1 : FVec Ideal S1536 .f32) : FVec Ideal S1536x384 .bf16 :=
  truncf .bf16 (mulf w (broadcastInDim S1536x384 ![0, 1] bcast_S1536x1_S1536x384_0_1
    (broadcastInDim S1536x1 ![0] bcast_S1536_S1536x1_0 (mulf g1 (broadcastInDim S1536 ![] bcast_S_S1536 (id invS)))))) bitsLt_bf16_f32

/-- The second hidden weight with its normaliser's scale. -/
def hW2 (w : FVec Ideal S384x1536 .f32) (g3 : FVec Ideal S384 .f32) : FVec Ideal S384x1536 .bf16 :=
  truncf .bf16 (mulf w (broadcastInDim S384x1536 ![0, 1] bcast_S384x1_S384x1536_0_1
    (broadcastInDim S384x1 ![0] bcast_S384_S384x1_0
      (mulf (mulf (broadcastInDim S384 ![] bcast_S_S384 (constant S_ .f32 0x3F000000#32)) g3)
        (broadcastInDim S384 ![] bcast_S_S384 (id invS)))))) bitsLt_bf16_f32

/-- The nine weights of the window with its normaliser's scale. -/
def hTaps (w : FVec Ideal S1536x1x3x3 .f32) (g2 : FVec Ideal S1536 .f32) : FVec Ideal S9x1536 .f32 :=
  transpose S9x1536 [1, 0] (mulf (shapeCast S1536x9 w shapeCasts_S1536x1x3x3_S1536x9)
    (broadcastInDim S1536x9 ![0, 1] bcast_S1536x1_S1536x9_0_1
      (broadcastInDim S1536x1 ![0] bcast_S1536_S1536x1_0
        (mulf (mulf (broadcastInDim S1536 ![] bcast_S_S1536 (constant S_ .f32 0x3F000000#32)) g2)
          (broadcastInDim S1536 ![] bcast_S_S1536 (id invS)))))) transposes_S1536x9_S9x1536_1_0

/-- The table of the window's weights. -/
def hDw (w : FVec Ideal S1536x1x3x3 .f32) (g2 : FVec Ideal S1536 .f32) : FVec Ideal S16x1536 .f32 :=
  Host.scatter scatter_S16x1536_S1_S9x1536_01_n_0_0 (fun _ b => b)
    (broadcastInDim S16x1536 ![] bcast_S_S16x1536 (constant S_ .f32 0x00000000#32)) (at1 0#32) (hTaps w g2)

/-- The table of the hidden offsets. -/
def hMid (b1 b2 : FVec Ideal S1536 .f32) : FVec Ideal S8x1536 .f32 :=
  Host.scatter scatter_S8x1536_S1_S1536_0_0_0_0 (fun _ b => b)
    (Host.scatter scatter_S8x1536_S1_S1536_0_0_0_0 (fun _ b => b)
      (broadcastInDim S8x1536 ![] bcast_S_S8x1536 (constant S_ .f32 0x00000000#32)) (at1 0#32) b1) (at1 1#32) b2

/-- The table of the last offset. -/
def hB3 (b3 : FVec Ideal S384 .f32) : FVec Ideal S8x384 .f32 :=
  Host.scatter scatter_S8x384_S1_S384_0_0_0_0 (fun _ b => b)
    (broadcastInDim S8x384 ![] bcast_S_S8x384 (constant S_ .f32 0x00000000#32)) (at1 0#32) b3

section
set_option maxHeartbeats 2000000

variable (m : (ℓ : Loc nD τ sig) → Buf (Elt Ideal) ℓ) (c : Dev nD)

theorem V_x : V m c main_call0_v3 = hX (m (c.tc.loc main_arg0)) := by
  simp only [V, V0, hostOps0, List.flatten_cons, List.flatten_nil, List.append_nil]; entry_read
  simp only [StableHlo.TRef.ofBuf_toBuf, StableHlo.TRef.ofBuf, StableHlo.TRef.toBuf, cast_eq]
  unfold hX
  rfl

theorem V_q : V m c main_call0_v6 = hW 0x3D800000#32 (m (c.tc.loc main_arg3)) := by
  simp only [V, V0, hostOps0, List.flatten_cons, List.flatten_nil, List.append_nil]; entry_read
  simp only [StableHlo.TRef.ofBuf_toBuf, StableHlo.TRef.ofBuf, StableHlo.TRef.toBuf, cast_eq]
  unfold hW
  rfl

theorem V_k : V m c main_call0_v9 = hW 0x3F000000#32 (m (c.tc.loc main_arg4)) := by
  simp only [V, V0, hostOps0, List.flatten_cons, List.flatten_nil, List.append_nil]; entry_read
  simp only [StableHlo.TRef.ofBuf_toBuf, StableHlo.TRef.ofBuf, StableHlo.TRef.toBuf, cast_eq]
  unfold hW
  rfl

theorem V_v : V m c main_call0_v12 = hW 0x3F000000#32 (m (c.tc.loc main_arg5)) := by
  simp only [V, V0, hostOps0, List.flatten_cons, List.flatten_nil, List.append_nil]; entry_read
  simp only [StableHlo.TRef.ofBuf_toBuf, StableHlo.TRef.ofBuf, StableHlo.TRef.toBuf, cast_eq]
  unfold hW
  rfl

theorem V_m : V m c main_call0_v13 = truncf (F := Ideal) (s := S384x384) .bf16 (m (c.tc.loc main_arg6)) bitsLt_bf16_f32 := by
  simp only [V, V0, hostOps0, List.flatten_cons, List.flatten_nil, List.append_nil]; entry_read
  simp only [StableHlo.TRef.ofBuf_toBuf, StableHlo.TRef.ofBuf, StableHlo.TRef.toBuf, cast_eq]

theorem V_vec : V m c main_call0_v23 = hVec (m (c.tc.loc main_arg1)) (m (c.tc.loc main_arg2)) (m (c.tc.loc main_arg7)) := by
  simp only [V, V0, hostOps0, List.flatten_cons, List.flatten_nil, List.append_nil]; entry_read
  simp only [StableHlo.TRef.ofBuf_toBuf, StableHlo.TRef.ofBuf, StableHlo.TRef.toBuf, cast_eq]
  unfold hVec at1 invS
  rfl

theorem V_w1 : V m c main_call0_v30 = hW1 (m (c.tc.loc main_arg8)) (m (c.tc.loc main_arg9)) := by
  simp only [V, V0, hostOps0, List.flatten_cons, List.flatten_nil, List.append_nil]; entry_read
  simp only [StableHlo.TRef.ofBuf_toBuf, StableHlo.TRef.ofBuf, StableHlo.TRef.toBuf, cast_eq]
  unfold hW1 invS
  rfl

theorem V_w2 : V m c main_call0_v39 = hW2 (m (c.tc.loc main_arg14)) (m (c.tc.loc main_arg15)) := by
  simp only [V, V0, hostOps0, List.flatten_cons, List.flatten_nil, List.append_nil]; entry_read
  simp only [StableHlo.TRef.ofBuf_toBuf, StableHlo.TRef.ofBuf, StableHlo.TRef.toBuf, cast_eq]
  unfold hW2 invS
  rfl

theorem V_dw : V m c main_call0_v52 = hDw (m (c.tc.loc main_arg11)) (m (c.tc.loc main_arg12)) := by
  simp only [V, V0, hostOps0, List.flatten_cons, List.flatten_nil, List.append_nil]; entry_read
  simp only [StableHlo.TRef.ofBuf_toBuf]
  rw [show ∀ a : main_arg12.ty.Contents (Elt Ideal), (StableHlo.TRef.of main_arg12 hostOps0._proof_205 hostOps0._proof_206 hostOps0._proof_207).ofBuf a = a from fun _ => rfl]
  rw [show ∀ a : main_call0_v41.ty.Contents (Elt Ideal), (StableHlo.TRef.of main_call0_v41 hostOps0._proof_196 hostOps0._proof_197 hostOps0._proof_198).ofBuf a = a from fun _ => rfl]
  refine (show ∀ a : (⟨S16x1536, .f32⟩ : BufTy).Contents (Elt Ideal), (StableHlo.TRef.of main_call0_v52 hostOps0._proof_238 hostOps0._proof_239 hostOps0._proof_240).toBuf a = a from fun _ => rfl) _ |>.trans ?_
  unfold hDw hTaps
  refine congrArg (fun u => Host.scatter scatter_S16x1536_S1_S9x1536_01_n_0_0 (fun _ b => b) _ _ (transpose S9x1536 [1, 0] u transposes_S1536x9_S9x1536_1_0)) ?_
  rfl

theorem V_mid : V m c main_call0_v57 = hMid (m (c.tc.loc main_arg10)) (m (c.tc.loc main_arg13)) := by
  simp only [V, V0, hostOps0, List.flatten_cons, List.flatten_nil, List.append_nil]; entry_read
  simp only [StableHlo.TRef.ofBuf_toBuf, StableHlo.TRef.ofBuf, StableHlo.TRef.toBuf, cast_eq]
  unfold hMid at1
  rfl

theorem V_b3 : V m c main_call0_v60 = hB3 (m (c.tc.loc main_arg16)) := by
  simp only [V, V0, hostOps0, List.flatten_cons, List.flatten_nil, List.append_nil]; entry_read
  simp only [StableHlo.TRef.ofBuf_toBuf, StableHlo.TRef.ofBuf, StableHlo.TRef.toBuf, cast_eq]
  unfold hB3 at1
  rfl

end

end Cert.Attn

end
-- ==== Proof.Attn.Final.lean ====
/- The kernel's block and the reference's formula are the same number, when no score exceeds forty. -/
module

public import proofs.«01_k».proof.Proof.Attn.Body
public import proofs.«01_k».proof.Proof.Attn.Spec

@[expose] public section

set_option maxRecDepth 16384

noncomputable section

namespace Cert.Attn

open Idealize.ShloMosaic

/-- The operands of block `n`, as the host prepares them from the arguments. -/
def Par.opr (P : Par) (b3 : Fin 384 → EReal) (n : Fin 4) : Opr where
  X t c := P.x n c (hOf t) (wOf t)
  SC c := P.g0 c * (1 / sgm)
  B := P.b0
  MB := P.mb
  QW o c := P.qw o c * (1 / 16)
  KW o c := P.kw o c * (1 / 2)
  VW o c := P.vw o c * (1 / 2)
  MW := P.mw
  W1 o c := P.w1 o c * (P.g1 o * (1 / sgm))
  B1 := P.b1
  DW i o := P.dw o ⟨i.val / 3, by omega⟩ ⟨i.val % 3, by omega⟩ * (1 / 2 * P.g2 o * (1 / sgm))
  B2 := P.b2
  W2 o c := P.w2 o c * (1 / 2 * P.g3 o * (1 / sgm))
  B3 := b3

variable (P : Par) (b3 : Fin 384 → EReal) (n : Fin 4)

theorem tok_hw (t : Fin 1024) : tok (hOf t) (wOf t) = t := Fin.ext (by simp only [tok, hOf, wOf]; omega)

theorem act_fin (t : Fin 1024) (c : Fin 384) :
    actK (P.opr b3 n).X (P.opr b3 n).SC (P.opr b3 n).B t c = 2 * gelu (P.bn0 n c (hOf t) (wOf t)) := by
  unfold actK
  rw [gk_eq]
  refine congrArg (fun u => 2 * gelu u) ?_
  simp only [Par.opr, Par.bn0]
  ring

theorem prj_fin (W : Fin 384 → Fin 384 → ℝ) (k : ℝ) (t : Fin 1024) (o : Fin 384) :
    (P.opr b3 n).prj (fun o c => W o c * k) t o = 2 * k * P.proj W n o (hOf t) (wOf t) := by
  unfold Opr.prj lin Par.proj
  rw [Finset.mul_sum]
  refine Finset.sum_congr rfl fun c _ => ?_
  rw [act_fin]
  ring

theorem msg_fin (hs : ∀ l s a, P.score n l s a ≤ 40) (t : Fin 1024) (c : Fin 384) :
    msgK ((P.opr b3 n).prj (P.opr b3 n).QW) ((P.opr b3 n).prj (P.opr b3 n).KW) ((P.opr b3 n).prj (P.opr b3 n).VW) t c
      = P.msg n c t := by
  have hq : ∀ t o, (P.opr b3 n).prj (P.opr b3 n).QW t o = 2 * (1 / 16) * P.proj P.qw n o (hOf t) (wOf t) := prj_fin P b3 n P.qw _
  have hk : ∀ t o, (P.opr b3 n).prj (P.opr b3 n).KW t o = 2 * (1 / 2) * P.proj P.kw n o (hOf t) (wOf t) := prj_fin P b3 n P.kw _
  have hv : ∀ t o, (P.opr b3 n).prj (P.opr b3 n).VW t o = 2 * (1 / 2) * P.proj P.vw n o (hOf t) (wOf t) := prj_fin P b3 n P.vw _
  have hsc : ∀ s, (∑ e, (P.opr b3 n).prj (P.opr b3 n).QW t (hcol c e) * (P.opr b3 n).prj (P.opr b3 n).KW s (hcol c e))
      = P.score n t s ⟨c.val / 64, by omega⟩ := by
    intro s
    unfold Par.score
    rw [Finset.mul_sum]
    refine Finset.sum_congr rfl fun e _ => ?_
    have hc : hcol c e = ⟨c.val / 64 * 64 + e.val, by omega⟩ := Fin.ext (by simp only [hcol]; omega)
    rw [hq, hk, hc]
    ring
  unfold msgK headK Par.msg
  simp only [hsc, min_eq_left (hs _ _ _), hv]
  congr 1
  exact Finset.sum_congr rfl fun s _ => by ring

theorem rows_fin (hs : ∀ l s a, P.score n l s a ≤ 40) (t : Fin 1024) (o : Fin 384) :
    (P.opr b3 n).rows t o = P.x1 n o (hOf t) (wOf t) := by
  unfold Opr.rows Par.x1 lin
  simp only [msg_fin P b3 n hs, tok_hw]
  have : ∀ c, P.msg n c t * (P.opr b3 n).MW o c = P.mw o c * P.msg n c t := fun c => mul_comm _ _
  simp only [this]
  simp only [Par.opr]
  ring

section
variable {P n} {e : Fin 768 → Fin 1536} {Y : Fin 1024 → Fin 768 → ℝ}
  (hY : ∀ t o, Y t o = 2 * gelu (P.bn1 n (e o) (hOf t) (wOf t)))
include hY

theorem pad_fin (t : Nat) (ht : t < 1024) (o : Fin 768) : padY Y t o = 2 * P.bord n (e o) (1 + t / 32) (1 + t % 32) := by
  unfold padY Par.bord
  rw [dif_pos ht, dif_pos (by omega), hY]
  refine congrArg (2 * gelu ·) ?_
  congr 1 <;> exact Fin.ext (by simp only [hOf, wOf]; omega)

theorem left_fin (t : Nat) (ht : t < 1024) (o : Fin 768) : leftY Y t o = 2 * P.bord n (e o) (1 + t / 32) (t % 32) := by
  unfold leftY
  by_cases h : 1 ≤ t % 32
  · rw [if_pos h, pad_fin hY _ (by omega), show 1 + (t - 1) / 32 = 1 + t / 32 by omega, show 1 + (t - 1) % 32 = t % 32 by omega]
  · rw [if_neg h, Par.bord, dif_neg (by omega), mul_zero]

theorem right_fin (t : Nat) (ht : t < 1024) (o : Fin 768) : rightY Y t o = 2 * P.bord n (e o) (1 + t / 32) (2 + t % 32) := by
  unfold rightY
  by_cases h : t % 32 ≤ 30
  · rw [if_pos h, pad_fin hY _ (by omega), show 1 + (t + 1) / 32 = 1 + t / 32 by omega, show 1 + (t + 1) % 32 = 2 + t % 32 by omega]
  · rw [if_neg h, Par.bord, dif_neg (by omega), mul_zero]

theorem row_fin (a b c : Fin 768 → ℝ) (t : Nat) (ht : t < 1024) (o : Fin 768) :
    rowY Y a b c t o = 2 * (P.bord n (e o) (1 + t / 32) (t % 32) * a o + P.bord n (e o) (1 + t / 32) (1 + t % 32) * b o
      + P.bord n (e o) (1 + t / 32) (2 + t % 32) * c o) := by
  unfold rowY
  rw [pad_fin hY t ht, left_fin hY t ht, right_fin hY t ht]
  ring

theorem conv_fin (t : Fin 1024) (o : Fin 768) :
    convK Y (fun i c => (P.opr b3 n).DW i (e c)) t o = P.g2 (e o) * P.conv n (e o) (hOf t) (wOf t) / sgm := by
  have up : (if 32 ≤ t.val then rowY Y (fun c => (P.opr b3 n).DW 0 (e c)) (fun c => (P.opr b3 n).DW 1 (e c)) (fun c => (P.opr b3 n).DW 2 (e c)) (t.val - 32) o else 0)
      = 2 * (P.bord n (e o) (t.val / 32) (t.val % 32) * (P.opr b3 n).DW 0 (e o) + P.bord n (e o) (t.val / 32) (1 + t.val % 32) * (P.opr b3 n).DW 1 (e o)
        + P.bord n (e o) (t.val / 32) (2 + t.val % 32) * (P.opr b3 n).DW 2 (e o)) := by
    by_cases h : 32 ≤ t.val
    · rw [if_pos h, row_fin hY _ _ _ _ (by omega), show 1 + (t.val - 32) / 32 = t.val / 32 by omega, show (t.val - 32) % 32 = t.val % 32 by omega]
    · rw [if_neg h]
      have z : ∀ w, P.bord n (e o) (t.val / 32) w = 0 := fun w => by rw [Par.bord, dif_neg (by omega)]
      simp only [z]; ring
  have down : (if t.val + 32 < 1024 then rowY Y (fun c => (P.opr b3 n).DW 6 (e c)) (fun c => (P.opr b3 n).DW 7 (e c)) (fun c => (P.opr b3 n).DW 8 (e c)) (t.val + 32) o else 0)
      = 2 * (P.bord n (e o) (2 + t.val / 32) (t.val % 32) * (P.opr b3 n).DW 6 (e o) + P.bord n (e o) (2 + t.val / 32) (1 + t.val % 32) * (P.opr b3 n).DW 7 (e o)
        + P.bord n (e o) (2 + t.val / 32) (2 + t.val % 32) * (P.opr b3 n).DW 8 (e o)) := by
    by_cases h : t.val + 32 < 1024
    · rw [if_pos h, row_fin hY _ _ _ _ (by omega), show 1 + (t.val + 32) / 32 = 2 + t.val / 32 by omega, show (t.val + 32) % 32 = t.val % 32 by omega]
    · rw [if_neg h]
      have z : ∀ w, P.bord n (e o) (2 + t.val / 32) w = 0 := fun w => by rw [Par.bord, dif_neg (by omega)]
      simp only [z]; ring
  have d : ∀ (i : Fin 9) (j k : Fin 3), i.val / 3 = j.val → i.val % 3 = k.val →
      (P.opr b3 n).DW i (e o) = P.dw (e o) j k * (1 / 2 * P.g2 (e o) * (1 / sgm)) := by
    intro i j k hj hk
    have ej : (⟨i.val / 3, by omega⟩ : Fin 3) = j := Fin.ext hj
    have ek : (⟨i.val % 3, by omega⟩ : Fin 3) = k := Fin.ext hk
    show P.dw (e o) ⟨i.val / 3, _⟩ ⟨i.val % 3, _⟩ * _ = _
    rw [ej, ek]
  unfold convK
  rw [up, down, row_fin hY _ _ _ _ t.isLt]
  beta_reduce
  rw [d 0 0 0 rfl rfl, d 1 0 1 rfl rfl, d 2 0 2 rfl rfl, d 3 1 0 rfl rfl, d 4 1 1 rfl rfl,
    d 5 1 2 rfl rfl, d 6 2 0 rfl rfl, d 7 2 1 rfl rfl, d 8 2 2 rfl rfl]
  unfold Par.conv
  simp only [hOf, wOf]
  ring

end

theorem hid_fin (hs : ∀ l s a, P.score n l s a ≤ 40) (e : Fin 768 → Fin 1536) (t : Fin 1024) (o : Fin 768) :
    hidK (P.opr b3 n).rows (fun c => (P.opr b3 n).W1 (e c)) (fun c => (P.opr b3 n).B1 (e c)) t o
      = 2 * gelu (P.bn1 n (e o) (hOf t) (wOf t)) := by
  unfold hidK lin
  rw [gk_eq]
  refine congrArg (fun u => 2 * gelu u) ?_
  simp only [rows_fin P b3 n hs, Par.bn1]
  refine congrArg (· + P.b1 (e o)) ?_
  rw [mul_div_right_comm, Finset.mul_sum]
  refine Finset.sum_congr rfl fun c _ => ?_
  simp only [Par.opr]
  ring

theorem half_fin (hs : ∀ l s a, P.score n l s a ≤ 40) (e : Fin 768 → Fin 1536) (t : Fin 1024) (o : Fin 384) :
    (P.opr b3 n).half e t o = P.g3 o / sgm * ∑ c, P.w2 o (e c) * gelu (P.bn2 n (e c) (hOf t) (wOf t)) := by
  unfold Opr.half lin midK
  rw [Finset.mul_sum]
  refine Finset.sum_congr rfl fun c _ => ?_
  rw [conv_fin b3 (hid_fin P b3 n hs e), gk_eq]
  simp only [Par.opr, Par.bn2]
  ring

/-- The kernel's block is the reference's formula. -/
theorem block_fin (hs : ∀ l s a, P.score n l s a ≤ 40) (t : Fin 1024) (o : Fin 384) :
    (P.opr b3 n).block t o = P.out b3 n o (hOf t) (wOf t) := by
  unfold Opr.block Par.out
  have ht : P.tail n o (hOf t) (wOf t) = (P.opr b3 n).half (fun c => ⟨c.val, by omega⟩) t o + (P.opr b3 n).half (fun c => ⟨768 + c.val, by omega⟩) t o := by
    rw [half_fin P b3 n hs, half_fin P b3 n hs, ← mul_add]
    unfold Par.tail
    rw [mul_div_right_comm]
    refine congrArg (P.g3 o / sgm * ·) ?_
    exact Fin.sum_univ_add (a := 768) (b := 768) fun c : Fin 1536 => P.w2 o c * gelu (P.bn2 n c (hOf t) (wOf t))
  rw [rows_fin P b3 n hs, ht, EReal.coe_add]
  have hb : (P.opr b3 n).B3 o = b3 o := rfl
  rw [hb]
  generalize (P.x1 n o (hOf t) (wOf t) : EReal) = a
  generalize b3 o = b
  rw [add_assoc, add_assoc, add_comm b, add_assoc]

end Cert.Attn

end
-- ==== Proof.Attn.Entry.lean ====
/- The prepared operands, entry by entry, over real arguments. -/
module

public import proofs.«01_k».proof.Proof.Attn.Host
public import proofs.«01_k».proof.Proof.Attn.Final

@[expose] public section

set_option maxRecDepth 16384

noncomputable section

namespace Cert.Attn

open Idealize.ShloMosaic Cert.KernelIdeal Cert.KernelIdeal.Gen

section
set_option maxHeartbeats 2000000

theorem invS_at (i : S_.Idx) : invS i = ((1 / sgm : ℝ) : EReal) := by
  pointwise [invS]
  simp only [lit_sgm, sqrt_sgm, one_real, div_real _ sgm_ne]

theorem at1_at (k : BitVec 32) (i : S1.Idx) : at1 k i = k := rfl

theorem hX_at (a : FVec Ideal S4x384x32x32 .f32) (n : Fin 4) (t : Fin 1024) (c : Fin 384) :
    hX a (ix3 n t c) = a (ix4 n c (hOf t) (wOf t)) := by
  pointwise [hX]
  rfl

theorem hW_at (k : BitVec 32) (a : FVec Ideal S384x384 .f32) (o c : Fin 384) :
    hW k a (ix2 o c) = a (ix2 o c) * Ideal.ofBits .f32 k := by
  pointwise [hW]

theorem hW1_at (w : FVec Ideal S1536x384 .f32) (g1 : FVec Ideal S1536 .f32) (o : Fin 1536) (c : Fin 384) :
    hW1 w g1 (ix2 o c) = w (ix2 o c) * (g1 (ix1 o) * ((1 / sgm : ℝ) : EReal)) := by
  pointwise [hW1, id]
  simp only [invS_at]

theorem hW2_at (w : FVec Ideal S384x1536 .f32) (g3 : FVec Ideal S384 .f32) (o : Fin 384) (c : Fin 1536) :
    hW2 w g3 (ix2 o c) = w (ix2 o c) * (((1 / 2 : ℝ) : EReal) * g3 (ix1 o) * ((1 / sgm : ℝ) : EReal)) := by
  pointwise [hW2, id]
  simp only [invS_at, lit_half]

theorem hTaps_at (w : FVec Ideal S1536x1x3x3 .f32) (g2 : FVec Ideal S1536 .f32) (i : Fin 9) (o : Fin 1536) :
    hTaps w g2 (ix2 i o) = w (ix4 o 0 ⟨i.val / 3, by omega⟩ ⟨i.val % 3, by omega⟩) * (((1 / 2 : ℝ) : EReal) * g2 (ix1 o) * ((1 / sgm : ℝ) : EReal)) := by
  pointwise [hTaps, id]
  simp only [invS_at, lit_half]

variable {R C : Nat}

/-- One row set in a table, in the kernel's own indices. -/
theorem row_at (d : ScatterDims ⟨2, ![R, C]⟩ S1 ⟨1, ![C]⟩) (hiw : d.insertedWindowDims = [0]) (hsd : d.scatterDimsToOperandDims = [0])
    (x : FVec Ideal ⟨2, ![R, C]⟩ .f32) (w : BitVec 32) (upd : FVec Ideal ⟨1, ![C]⟩ .f32) (k : Nat) (hk : w.toInt = (k : Int)) (r : Fin R) (c : Fin C) :
    Host.scatter d (fun _ b => b) x (at1 w) upd (ix2 r c) = if r.val = k then upd (ix1 c) else x (ix2 r c) := by
  simp only [ix2_eq_valueIdx, ix1_eq_valueIdx]
  exact row_set d hiw hsd x (at1 w) upd k hk r c

variable (g0 b0 mb : FVec Ideal S384 .f32) (b1 b2 : FVec Ideal S1536 .f32) (j : Fin 384) (o : Fin 1536)

theorem hVec_at0 : hVec g0 b0 mb (ix2 0 j) = g0 (ix1 j) * ((1 / sgm : ℝ) : EReal) := by
  unfold hVec
  refine (row_at _ rfl rfl _ _ _ 2 rfl 0 j).trans ?_
  refine (if_neg (by decide)).trans ?_
  refine (row_at _ rfl rfl _ _ _ 1 rfl 0 j).trans ?_
  refine (if_neg (by decide)).trans ?_
  refine (row_at _ rfl rfl _ _ _ 0 rfl 0 j).trans ?_
  refine (if_pos (by decide)).trans ?_
  pointwise [id]
  simp only [invS_at]

theorem hVec_at1 : hVec g0 b0 mb (ix2 1 j) = b0 (ix1 j) := by
  unfold hVec
  refine (row_at _ rfl rfl _ _ _ 2 rfl 1 j).trans ?_
  refine (if_neg (by decide)).trans ?_
  exact (row_at _ rfl rfl _ _ _ 1 rfl 1 j).trans (if_pos (by decide))

theorem hVec_at2 : hVec g0 b0 mb (ix2 2 j) = mb (ix1 j) :=
  (row_at _ rfl rfl _ _ _ 2 rfl 2 j).trans (if_pos (by decide))

theorem hMid_at0 : hMid b1 b2 (ix2 0 o) = b1 (ix1 o) := by
  unfold hMid
  refine (row_at _ rfl rfl _ _ _ 1 rfl 0 o).trans ?_
  refine (if_neg (by decide)).trans ?_
  exact (row_at _ rfl rfl _ _ _ 0 rfl 0 o).trans (if_pos (by decide))

theorem hMid_at1 : hMid b1 b2 (ix2 1 o) = b2 (ix1 o) :=
  (row_at _ rfl rfl _ _ _ 1 rfl 1 o).trans (if_pos (by decide))

theorem hB3_at : hB3 g0 (ix2 0 j) = g0 (ix1 j) :=
  (row_at _ rfl rfl _ _ _ 0 rfl 0 j).trans (if_pos (by decide))

theorem hDw_at (w : FVec Ideal S1536x1x3x3 .f32) (g2 : FVec Ideal S1536 .f32) (i : Fin 9) (hi : i.val < 16) :
    hDw w g2 (ix2 ⟨i.val, hi⟩ o) = hTaps w g2 (ix2 i o) := by
  unfold hDw
  simp only [ix2_eq_valueIdx]
  exact rows_set _ rfl rfl rfl _ (at1 0#32) (hTaps w g2) rfl i hi o

end

end Cert.Attn

end
-- ==== Proof.Attn.Held.lean ====
/- The blocks of every grid point hold the prepared numbers. -/
module

public import proofs.«01_k».proof.Proof.Attn.Array
public import proofs.«01_k».proof.Proof.Attn.Entry

@[expose] public section

set_option maxRecDepth 16384

noncomputable section

namespace Cert.Attn

open Idealize.ShloMosaic Idealize.SL.Sem Cert.KernelIdeal Cert.KernelIdeal.Gen

variable (m : (ℓ : Loc nD τ sig) → Buf (Elt Ideal) ℓ) (c : Dev nD) {P : Par}

/-- The kernel's arguments hold the numbers of `P`. -/
abbrev KerHolds (P : Par) : Prop :=
  Holds P (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9)) (m (c.tc.loc main_arg10))
    (m (c.tc.loc main_arg11)) (m (c.tc.loc main_arg12)) (m (c.tc.loc main_arg13)) (m (c.tc.loc main_arg14)) (m (c.tc.loc main_arg15))

/-- The last offset. -/
def lastOff (j : Fin 384) : EReal := (m (c.tc.loc main_arg16) : FVec Ideal S384 .f32) (ix1 j)

theorem held (H : KerHolds m c P) (t : Fin cfg0.N) :
    (P.opr (lastOff m c) t).Held (iblk m c 0 t) (iblk m c 1 t) (iblk m c 2 t) (iblk m c 3 t) (iblk m c 4 t) (iblk m c 5 t)
      (iblk m c 6 t) (iblk m c 7 t) (iblk m c 8 t) (iblk m c 9 t) (iblk m c 10 t) := by
  rw [blk1, blk2, blk3, blk4, blk5, blk6, blk7, blk8, blk9, blk10, V_q, V_k, V_v, V_m, V_vec, V_w1, V_w2, V_dw, V_mid, V_b3]
  constructor
  · intro i j; rw [blk0, V_x]; exact (hX_at _ t i j).trans (H.x _ _ _ _)
  · intro i j; refine (hW_at _ _ i j).trans ?_; rw [H.qw, lit_sixteenth]; rfl
  · intro i j; refine (hW_at _ _ i j).trans ?_; rw [H.kw, lit_half]; rfl
  · intro i j; refine (hW_at _ _ i j).trans ?_; rw [H.vw, lit_half]; rfl
  · intro i j; exact H.mw i j
  · intro j; refine (hVec_at0 _ _ _ j).trans ?_; rw [H.g0]; rfl
  · intro j; exact (hVec_at1 _ _ _ j).trans (H.b0 j)
  · intro j; exact (hVec_at2 _ _ _ j).trans (H.mb j)
  · intro i j; refine (hW1_at _ _ i j).trans ?_; rw [H.w1, H.g1]; rfl
  · intro i j; refine (hW2_at _ _ i j).trans ?_; rw [H.w2, H.g3]; rfl
  · intro i j; refine (hDw_at j _ _ i _).trans ((hTaps_at _ _ i j).trans ?_); rw [H.dw, H.g2]; rfl
  · intro j; exact (hMid_at0 _ _ j).trans (H.b1 j)
  · intro j; exact (hMid_at1 _ _ j).trans (H.b2 j)
  · intro j; exact hB3_at _ j

/-- What the kernel's result holds. -/
theorem ker_at (H : KerHolds m c P) (hs : ∀ n l s a, P.score n l s a ≤ 40) (n : Fin 4) (o : Fin 384) (h w : Fin 32) :
    (Pipeline.afterTail₀ cfgs (dats m) 0 (V0 m) [hostOps1] c main_v0 : FVec Ideal S4x384x32x32 .f32) (ix4 n o h w) = P.out (lastOff m c) n o h w := by
  rw [tail_at m c (fun n => P.opr (lastOff m c) n) (held m c H), block_fin P _ n (hs n)]
  have e0 : hOf (tok h w) = h := Fin.ext (by simp only [hOf, tok]; omega)
  have e1 : wOf (tok h w) = w := Fin.ext (by simp only [wOf, tok]; omega)
  rw [e0, e1]

end Cert.Attn

end
-- ==== Proof.Attn.Ref.lean ====
/- What the reference's named stages hold, entry by entry. -/
module

public import proofs.«01_k».proof.Proof.Attn.Spec
public import Idealize.ShloMosaic.Lib.Tactic.CleanTypes
public import Idealize.ShloMosaic.Lib.Pipeline.ValueKit

@[expose] public section

set_option maxRecDepth 16384

noncomputable section

namespace Cert.Attn

open Idealize.ShloMosaic Cert.ReferenceIdeal Cert.ReferenceIdeal.Gen Cert.ReferenceIdeal.Value

section
set_option maxHeartbeats 2000000

variable (V : Valuation τ sig (Elt Ideal)) {P : Par}

/-- The reference's arguments hold the numbers of `P`. -/
abbrev RefHolds (V : Valuation τ sig (Elt Ideal)) (P : Par) : Prop :=
  Holds P (V (Proc.devRef .tc main_arg0)) (V (Proc.devRef .tc main_arg1))
    (V (Proc.devRef .tc main_arg2)) (V (Proc.devRef .tc main_arg3)) (V (Proc.devRef .tc main_arg4))
    (V (Proc.devRef .tc main_arg5)) (V (Proc.devRef .tc main_arg6)) (V (Proc.devRef .tc main_arg7))
    (V (Proc.devRef .tc main_arg8)) (V (Proc.devRef .tc main_arg9)) (V (Proc.devRef .tc main_arg10))
    (V (Proc.devRef .tc main_arg11)) (V (Proc.devRef .tc main_arg12))
    (V (Proc.devRef .tc main_arg13)) (V (Proc.devRef .tc main_arg14))
    (V (Proc.devRef .tc main_arg15))

/-- The activation as the reference writes it. -/
theorem act_ref (u : ℝ) :
    ((1 / 2 : ℝ) : EReal) * (u : EReal) * Ideal.erfc (-(u : EReal) * (rs2 : EReal))
      = ((gelu u : ℝ) : EReal) := by
  simp only [← EReal.coe_neg, ← EReal.coe_mul, erfc_real]
  rw [neg_mul, erfR_neg, sub_neg_eq_add]; rfl

theorem ref9 (H : RefHolds V P) (n : Fin 4) (c : Fin 384) (h w : Fin 32) :
    (res_main_v9 V : FVec Ideal S4x384x32x32 .f32) (ix4 n c h w) = (P.bn0 n c h w : EReal) := by
  unfold res_main_v9
  clean_types
  pointwise [id]
  simp only [H.x, H.g0, H.b0, lit_sgm, sqrt_sgm, ← EReal.coe_mul, div_real _ sgm_ne, ← EReal.coe_add]
  rfl

theorem ref30 (H : RefHolds V P) (n : Fin 4) (c : Fin 384) (h w : Fin 32) :
    (res_main_v30 V : FVec Ideal S4x384x32x32 .f32) (ix4 n c h w) = (P.bn0 n c h w : EReal) := by
  unfold res_main_v30
  clean_types
  pointwise [id]
  simp only [H.x, H.g0, H.b0, lit_sgm, sqrt_sgm, ← EReal.coe_mul, div_real _ sgm_ne, ← EReal.coe_add]
  rfl

theorem ref37 (H : RefHolds V P) (n : Fin 4) (c : Fin 384) (h w : Fin 32) :
    (res_main_v37 V : FVec Ideal S4x384x32x32 .f32) (ix4 n c h w)
      = (gelu (P.bn0 n c h w) : EReal) := by
  unfold res_main_v37
  clean_types
  pointwise
  simp only [ref30 V H, lit_half, lit_rs2, act_ref]

theorem ref49 (H : RefHolds V P) (n : Fin 4) (l s : Fin 1024) (a : Fin 6) :
    (res_main_v49 V : FVec Ideal S4x1024x1024x6 .f32) (ix4 n l s a) = (P.score n l s a : EReal) := by
  unfold res_main_v49
  clean_types
  pointwise
  simp only [ref37 V H, H.qw, H.kw, lit_eighth, ← EReal.coe_mul, coe_sum]
  rfl

/-- The largest score of a row. -/
theorem rowmax_at (x : FVec Ideal S4x1024x1024x6 .f32) (n : Fin 4) (l : Fin 1024) (a : Fin 6) :
    (Host.reduce FloatOps.maximumf x (constant S_ .f32 0xFF800000#32)
        reducesTo_S4x1024x1024x6_S4x1024x6_d2 h_S_ : FVec Ideal S4x1024x6 .f32) (ix3 n l a)
      = Finset.univ.fold max (Ideal.ofBits FTy.f32 0xFF800000#32) (fun s' => x (ix4 n l s' a)) := by
  pointwise

/-- A score's weight before it is divided by the row's sum, the row's maximum being `y`. -/
theorem weight_at (x : FVec Ideal S4x1024x1024x6 .f32) (y : FVec Ideal S4x1024x6 .f32)
    (n : Fin 4) (l s : Fin 1024) (a : Fin 6) :
    (Host.exp (subf x (broadcastInDim S4x1024x1024x6 ![0, 1, 2, 3]
        bcast_S4x1024x1x6_S4x1024x1024x6_0_1_2_3
        (broadcastInDim S4x1024x1x6 ![0, 1, 3] bcast_S4x1024x6_S4x1024x1x6_0_1_3
          (maximumf (broadcastInDim S4x1024x6 ![] bcast_S_S4x1024x6
            (constant S_ .f32 0xFF800000#32)) y))))
      : FVec Ideal S4x1024x1024x6 .f32) (ix4 n l s a)
      = Ideal.exp (x (ix4 n l s a) - max (Ideal.ofBits FTy.f32 0xFF800000#32) (y (ix3 n l a))) := by
  pointwise

theorem ref56 (H : RefHolds V P) (n : Fin 4) (l : Fin 1024) (a : Fin 6) :
    ∃ r : ℝ, ∀ s, (res_main_v56 V : FVec Ideal S4x1024x1024x6 .f32) (ix4 n l s a)
      = (Real.exp (P.score n l s a - r) : EReal) := by
  obtain ⟨r, hr⟩ := fold_max_real (Finset.univ : Finset (Fin 1024)) (fun s => P.score n l s a)
    Finset.univ_nonempty
  refine ⟨r, fun s => ?_⟩
  have hy := rowmax_at (res_main_v49 V) n l a
  simp only [ref49 V H, lit_bot, hr] at hy
  refine (weight_at (res_main_v49 V) _ n l s a).trans ?_
  rw [hy, ref49 V H, lit_bot, max_eq_right bot_le, ← EReal.coe_sub, Ideal.exp_coe]

theorem ref70 (H : RefHolds V P) (n : Fin 4) (c : Fin 384) (h w : Fin 32) :
    (res_main_v70 V : FVec Ideal S4x384x32x32 .f32) (ix4 n c h w) = (P.x1 n c h w : EReal) := by
  have hm : ∀ o : Fin 384, (∑ s : Fin 1024,
      (∑ k, (P.vw o k : EReal) * (gelu (P.bn0 n k (hOf s) (wOf s)) : EReal))
        * Ideal.div ((res_main_v56 V : FVec Ideal S4x1024x1024x6 .f32)
            (ix4 n (tok h w) s ⟨o.val / 64, by omega⟩))
          (∑ s', (res_main_v56 V : FVec Ideal S4x1024x1024x6 .f32)
            (ix4 n (tok h w) s' ⟨o.val / 64, by omega⟩)))
      = (P.msg n o (tok h w) : EReal) := by
    intro o
    obtain ⟨r, hr⟩ := ref56 V H n (tok h w) ⟨o.val / 64, by omega⟩
    have hpos : (∑ s : Fin 1024, Real.exp (P.score n (tok h w) s ⟨o.val / 64, by omega⟩ - r)) ≠ 0 :=
      (Finset.sum_pos (fun _ _ => Real.exp_pos _) Finset.univ_nonempty).ne'
    simp only [hr, coe_sum, div_real _ hpos, ← EReal.coe_mul]
    rw [Par.msg, ← softmax_shift _ _ r (by norm_num)]
    rfl
  unfold res_main_v70
  clean_types
  pointwise
  simp only [ref9 V H, H.vw, H.mw, H.mb, H.x, lit_half, lit_rs2, act_ref]
  have := fun o => hm o
  simp only [tok, hOf, wOf, ← EReal.coe_mul, coe_sum] at this
  simp only [this, ← EReal.coe_mul, coe_sum, ← EReal.coe_add]
  rfl

theorem ref82 (H : RefHolds V P) (n : Fin 4) (c : Fin 1536) (h w : Fin 32) :
    (res_main_v82 V : FVec Ideal S4x1536x32x32 .f32) (ix4 n c h w) = (P.bn1 n c h w : EReal) := by
  unfold res_main_v82
  clean_types
  pointwise [id]
  simp only [ref70 V H, H.w1, H.g1, H.b1, lit_sgm, sqrt_sgm, ← EReal.coe_mul, coe_sum,
    div_real _ sgm_ne, ← EReal.coe_add]
  rfl

theorem ref90 (H : RefHolds V P) (n : Fin 4) (c : Fin 1536) (h w : Fin 34) :
    (res_main_v90 V : FVec Ideal S4x1536x34x34 .f32) (ix4 n c h w) = (P.bord n c h w : EReal) := by
  unfold res_main_v90
  clean_types
  pointwise
  simp only [ref82 V H, lit_half, lit_rs2, act_ref, Par.bord]
  split_ifs
  · rfl
  · exact congrArg Real.toEReal (Int.cast_zero)

theorem ref158 (H : RefHolds V P) (n : Fin 4) (c : Fin 1536) (h w : Fin 32) :
    (res_main_v158 V : FVec Ideal S4x1536x32x32 .f32) (ix4 n c h w)
      = ((P.g2 c * P.conv n c h w : ℝ) : EReal) := by
  unfold res_main_v158
  clean_types
  pointwise
  simp only [ref90 V H, H.g2, H.dw, ← EReal.coe_mul, ← EReal.coe_add]
  rfl

theorem ref164 (H : RefHolds V P) (n : Fin 4) (c : Fin 1536) (h w : Fin 32) :
    (res_main_v164 V : FVec Ideal S4x1536x32x32 .f32) (ix4 n c h w) = (P.bn2 n c h w : EReal) := by
  unfold res_main_v164
  clean_types
  pointwise [id]
  simp only [ref158 V H, H.b2, lit_sgm, sqrt_sgm, div_real _ sgm_ne, ← EReal.coe_add]
  rfl

/-- The reference's result. -/
def refOut : FVec Ideal S4x384x32x32 .f32 :=
  addf (res_main_v70 V) (addf (Host.divf (mulf (broadcastInDim S4x384x32x32 ![0, 1, 2, 3] bcast_S1x384x1x1_S4x384x32x32_0_1_2_3 (shapeCast S1x384x1x1 (V (Proc.devRef .tc main_arg15)) shapeCasts_S384_S1x384x1x1)) (transpose S4x384x32x32 [1, 0, 2, 3] (Host.dotGeneral (φ₁ := .f32) (φ₂ := .f32) dot_S384x1536_S4x1536x32x32_S384x4x32x32_1_1_0_023_n_n none (V (Proc.devRef .tc main_arg14) : FVec Ideal S384x1536 .f32) (mulf (mulf (broadcastInDim S4x1536x32x32 ![] bcast_S_S4x1536x32x32 (constant S_ .f32 0x3F000000#32)) (res_main_v164 V)) (Host.erfc (mulf (Host.negf (res_main_v164 V)) (broadcastInDim S4x1536x32x32 ![] bcast_S_S4x1536x32x32 (constant S_ .f32 0x3F3504F3#32)))))) transposes_S384x4x32x32_S4x384x32x32_1_0_2_3)) (broadcastInDim S4x384x32x32 ![] bcast_S_S4x384x32x32 (id (Host.sqrt (constant S_ .f32 0x3F800054#32))))) (broadcastInDim S4x384x32x32 ![0, 1, 2, 3] bcast_S1x384x1x1_S4x384x32x32_0_1_2_3 (shapeCast S1x384x1x1 (V (Proc.devRef .tc main_arg16)) shapeCasts_S384_S1x384x1x1)))

theorem ref_out (H : RefHolds V P) (n : Fin 4) (c : Fin 384) (h w : Fin 32) :
    refOut V (ix4 n c h w) = P.out (fun j => (V (Proc.devRef .tc main_arg16) : FVec Ideal S384 .f32) (ix1 j)) n c h w := by
  unfold refOut
  clean_types
  pointwise [id]
  simp only [ref70 V H, ref164 V H, H.w2, H.g3, lit_half, lit_rs2, act_ref, lit_sgm, sqrt_sgm]
  simp only [← EReal.coe_mul, coe_sum, div_real _ sgm_ne]
  rfl

end

end Cert.Attn

end
-- ==== Proof.Attn.Pre.lean ====
/- What the precondition gives: the first sixteen arguments hold real numbers, and no score exceeds forty. -/
module

public import proofs.«01_k».proof.Proof.Gen.Pre_in_range
public import proofs.«01_k».proof.Proof.Attn.Ref

@[expose] public section

set_option maxRecDepth 16384

noncomputable section

namespace Cert.Attn

open Idealize.ShloMosaic Cert.Pre_in_range Cert.Pre_in_range.Facts

section
set_option maxHeartbeats 2000000

/-- A word that says yes. -/
theorem word_yes (p : Prop) [Decidable p] (h : BitVec.ofBool (decide p) = 1#1) : p := by
  by_contra hp
  rw [decide_eq_false hp] at h
  exact absurd h (by decide)

/-- An entry below infinity in absolute value is a real number. -/
theorem finite_of {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (i : s.Idx) :
    x i = ((x i).toReal : EReal) := by
  have h : max (x i) (-x i) < Ideal.ofBits .f32 0x7F800000#32 := word_yes _ (congrFun h i)
  rw [lit_top, max_lt_iff] at h
  refine (EReal.coe_toReal h.1.ne fun e => ?_).symm
  rw [e, EReal.neg_bot] at h
  exact h.2.ne rfl

/-- The activated input, as the precondition spells it. -/
def preAct (a0 : FVec Ideal S4x384x32x32 .f32) (a1 a2 : FVec Ideal S384 .f32) : FVec Ideal S4x384x32x32 .f32 :=
  let u : FVec Ideal S4x384x32x32 .f32 := addf
    (Host.divf (mulf (broadcastInDim S4x384x32x32 ![0, 1, 2, 3] bcast_S1x384x1x1_S4x384x32x32_0_1_2_3 (shapeCast S1x384x1x1 a1 shapeCasts_S384_S1x384x1x1)) a0)
      (broadcastInDim S4x384x32x32 ![] bcast_S_S4x384x32x32 (id (Host.sqrt (constant S_ .f32 0x3F800054#32)))))
    (broadcastInDim S4x384x32x32 ![0, 1, 2, 3] bcast_S1x384x1x1_S4x384x32x32_0_1_2_3 (shapeCast S1x384x1x1 a2 shapeCasts_S384_S1x384x1x1))
  mulf (mulf (broadcastInDim S4x384x32x32 ![] bcast_S_S4x384x32x32 (constant S_ .f32 0x3F000000#32)) u)
    (Host.erfc (mulf (Host.negf u) (broadcastInDim S4x384x32x32 ![] bcast_S_S4x384x32x32 (constant S_ .f32 0x3F3504F3#32))))

/-- A projection of the activated input, its features split by head. -/
def preProj (w : FVec Ideal S384x384 .f32) (a : FVec Ideal S4x384x32x32 .f32) : FVec Ideal S4x1024x6x64 .f32 :=
  transpose S4x1024x6x64 [0, 3, 1, 2] (shapeCast S4x6x64x1024
    (transpose S4x384x32x32 [1, 0, 2, 3] (Host.dotGeneral dot_S384x384_S4x384x32x32_S384x4x32x32_1_1_0_023_n_n none w a) transposes_S384x4x32x32_S4x384x32x32_1_0_2_3)
    shapeCasts_S4x384x32x32_S4x6x64x1024) transposes_S4x6x64x1024_S4x1024x6x64_0_3_1_2

/-- The scores, as the precondition spells them. -/
def preScore (q k : FVec Ideal S4x1024x6x64 .f32) : FVec Ideal S4x1024x1024x6 .f32 :=
  mulf (broadcastInDim S4x1024x1024x6 ![] bcast_S_S4x1024x1024x6 (constant S_ .f32 0x3E000000#32))
    (transpose S4x1024x1024x6 [0, 3, 2, 1] (Host.dotGeneral dot_S4x1024x6x64_S4x1024x6x64_S4x6x1024x1024_3_3_1_1_02_02 none k q)
      transposes_S4x6x1024x1024_S4x1024x1024x6_0_3_2_1)

variable {P : Par} {a0 : FVec Ideal S4x384x32x32 .f32} {a1 a2 : FVec Ideal S384 .f32}

theorem preAct_at (hx : ∀ n c h w, a0 (ix4 n c h w) = (P.x n c h w : EReal)) (hg : ∀ c, a1 (ix1 c) = (P.g0 c : EReal))
    (hb : ∀ c, a2 (ix1 c) = (P.b0 c : EReal)) (n : Fin 4) (c : Fin 384) (h w : Fin 32) :
    preAct a0 a1 a2 (ix4 n c h w) = (gelu (P.bn0 n c h w) : EReal) := by
  pointwise [preAct, id]
  simp only [hx, hg, hb, lit_sgm, sqrt_sgm, lit_half, lit_rs2]
  rw [← EReal.coe_mul, div_real _ sgm_ne, ← EReal.coe_add]
  exact act_ref (P.bn0 n c h w)

theorem preProj_at {a : FVec Ideal S4x384x32x32 .f32} {w : FVec Ideal S384x384 .f32} {W : Fin 384 → Fin 384 → ℝ}
    (ha : ∀ n c h w, a (ix4 n c h w) = (gelu (P.bn0 n c h w) : EReal)) (hw : ∀ o c, w (ix2 o c) = (W o c : EReal))
    (n : Fin 4) (l : Fin 1024) (b : Fin 6) (d : Fin 64) :
    preProj w a (ix4 n l b d) = (P.proj W n ⟨b.val * 64 + d.val, by omega⟩ (hOf l) (wOf l) : EReal) := by
  pointwise [preProj]
  simp only [ha, hw, ← EReal.coe_mul, coe_sum]
  rfl

theorem preScore_at {q k : FVec Ideal S4x1024x6x64 .f32}
    (hq : ∀ n l b d, q (ix4 n l b d) = (P.proj P.qw n ⟨b.val * 64 + d.val, by omega⟩ (hOf l) (wOf l) : EReal))
    (hk : ∀ n l b d, k (ix4 n l b d) = (P.proj P.kw n ⟨b.val * 64 + d.val, by omega⟩ (hOf l) (wOf l) : EReal))
    (n : Fin 4) (l s : Fin 1024) (b : Fin 6) : preScore q k (ix4 n l s b) = (P.score n l s b : EReal) := by
  pointwise [preScore]
  simp only [hq, hk, lit_eighth, ← EReal.coe_mul, coe_sum]
  rfl

variable {a7 a15 a16 : FVec Ideal S384 .f32} {a3 a4 a5 a6 : FVec Ideal S384x384 .f32} {a8 : FVec Ideal S1536x384 .f32}
  {a9 a10 a12 a13 : FVec Ideal S1536 .f32} {a11 : FVec Ideal S1536x1x3x3 .f32} {a14 : FVec Ideal S384x1536 .f32}

/-- The numbers that the arguments hold. -/
def parOf (a0 : FVec Ideal S4x384x32x32 .f32) (a1 a2 : FVec Ideal S384 .f32) (a3 a4 a5 a6 : FVec Ideal S384x384 .f32)
    (a7 : FVec Ideal S384 .f32) (a8 : FVec Ideal S1536x384 .f32) (a9 a10 : FVec Ideal S1536 .f32) (a11 : FVec Ideal S1536x1x3x3 .f32)
    (a12 a13 : FVec Ideal S1536 .f32) (a14 : FVec Ideal S384x1536 .f32) (a15 : FVec Ideal S384 .f32) : Par where
  x n c h w := (a0 (ix4 n c h w)).toReal
  g0 c := (a1 (ix1 c)).toReal
  b0 c := (a2 (ix1 c)).toReal
  qw o c := (a3 (ix2 o c)).toReal
  kw o c := (a4 (ix2 o c)).toReal
  vw o c := (a5 (ix2 o c)).toReal
  mw o c := (a6 (ix2 o c)).toReal
  mb c := (a7 (ix1 c)).toReal
  w1 o c := (a8 (ix2 o c)).toReal
  g1 c := (a9 (ix1 c)).toReal
  b1 c := (a10 (ix1 c)).toReal
  dw o i j := (a11 (ix4 o 0 i j)).toReal
  g2 c := (a12 (ix1 c)).toReal
  b2 c := (a13 (ix1 c)).toReal
  w2 o c := (a14 (ix2 o c)).toReal
  g3 c := (a15 (ix1 c)).toReal

/-- What the precondition gives. -/
theorem pre_real (r : _) (hr : r = fn (F := Ideal) a0 a1 a2 a3 a4 a5 a6 a7 a8 a9 a10 a11 a12 a13 a14 a15 a16)
    (h : r.1 = (fun _ => 1#1) ∧ r.2.1 = (fun _ => 1#1) ∧ r.2.2.1 = (fun _ => 1#1) ∧ r.2.2.2.1 = (fun _ => 1#1) ∧ r.2.2.2.2.1 = (fun _ => 1#1) ∧ r.2.2.2.2.2.1 = (fun _ => 1#1) ∧ r.2.2.2.2.2.2.1 = (fun _ => 1#1) ∧ r.2.2.2.2.2.2.2.1 = (fun _ => 1#1) ∧ r.2.2.2.2.2.2.2.2.1 = (fun _ => 1#1) ∧ r.2.2.2.2.2.2.2.2.2.1 = (fun _ => 1#1) ∧ r.2.2.2.2.2.2.2.2.2.2.1 = (fun _ => 1#1) ∧ r.2.2.2.2.2.2.2.2.2.2.2.1 = (fun _ => 1#1) ∧ r.2.2.2.2.2.2.2.2.2.2.2.2.1 = (fun _ => 1#1) ∧ r.2.2.2.2.2.2.2.2.2.2.2.2.2.1 = (fun _ => 1#1) ∧ r.2.2.2.2.2.2.2.2.2.2.2.2.2.2.1 = (fun _ => 1#1) ∧ r.2.2.2.2.2.2.2.2.2.2.2.2.2.2.2.1 = (fun _ => 1#1) ∧ r.2.2.2.2.2.2.2.2.2.2.2.2.2.2.2.2 = (fun _ => 1#1)) :
    ∃ P : Par, Holds P a0 a1 a2 a3 a4 a5 a6 a7 a8 a9 a10 a11 a12 a13 a14 a15 ∧ ∀ n l s b, P.score n l s b ≤ 40 := by
  subst hr
  obtain ⟨h0, h1, h2, h3, h4, h5, h6, h7, h8, h9, h10, h11, h12, h13, h14, h15, h16⟩ := h
  have H : Holds (parOf a0 a1 a2 a3 a4 a5 a6 a7 a8 a9 a10 a11 a12 a13 a14 a15) a0 a1 a2 a3 a4 a5 a6 a7 a8 a9 a10 a11 a12 a13 a14 a15 :=
    ⟨fun _ _ _ _ => finite_of bcast_S_S4x384x32x32 a0 h1 _, fun _ => finite_of bcast_S_S384 a1 h2 _, fun _ => finite_of bcast_S_S384 a2 h3 _,
      fun _ _ => finite_of bcast_S_S384x384 a3 h4 _, fun _ _ => finite_of bcast_S_S384x384 a4 h5 _, fun _ _ => finite_of bcast_S_S384x384 a5 h6 _,
      fun _ _ => finite_of bcast_S_S384x384 a6 h7 _, fun _ => finite_of bcast_S_S384 a7 h8 _, fun _ _ => finite_of bcast_S_S1536x384 a8 h9 _,
      fun _ => finite_of bcast_S_S1536 a9 h10 _, fun _ => finite_of bcast_S_S1536 a10 h11 _, fun _ _ _ => finite_of bcast_S_S1536x1x3x3 a11 h12 _,
      fun _ => finite_of bcast_S_S1536 a12 h13 _, fun _ => finite_of bcast_S_S1536 a13 h14 _, fun _ _ => finite_of bcast_S_S384x1536 a14 h15 _,
      fun _ => finite_of bcast_S_S384 a15 h16 _⟩
  refine ⟨_, H, fun n l s b => ?_⟩
  have h : cmpf .ole (preScore (preProj a3 (preAct a0 a1 a2)) (preProj a4 (preAct a0 a1 a2)))
      (broadcastInDim S4x1024x1024x6 ![] bcast_S_S4x1024x1024x6 (constant S_ .f32 0x42200000#32)) = fun _ => 1#1 := h0
  have h : preScore (preProj a3 (preAct a0 a1 a2)) (preProj a4 (preAct a0 a1 a2)) (ix4 n l s b) ≤ Ideal.ofBits .f32 0x42200000#32 :=
    word_yes _ (congrFun h _)
  have ha := preAct_at H.x H.g0 H.b0
  rw [preScore_at (preProj_at ha H.qw) (preProj_at ha H.kw), lit_forty] at h
  exact EReal.coe_le_coe_iff.1 h

end

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Attn.Held
public import proofs.«01_k».proof.Proof.Attn.Pre
public import Idealize.ShloMosaic.Adequacy
public import Idealize.ShloMosaic.Init

@[expose] public section

noncomputable section

namespace Cert.Proof

open Idealize.ShloMosaic Idealize.SL.Sem Cert.Kernel

/-- The reference leaves its arguments alone; it declares no semaphore. -/
theorem reference_quiescent : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- What the kernel leaves in its result array. -/
def result (m : (ℓ : Loc Cert.KernelIdeal.nD Cert.KernelIdeal.τ Cert.KernelIdeal.sig) → Buf (Elt Ideal) ℓ) (c : Dev Cert.KernelIdeal.nD) :
    FVec Ideal Cert.KernelIdeal.S4x384x32x32 .f32 :=
  Pipeline.afterTail₀ Cert.KernelIdeal.cfgs (Cert.KernelIdeal.Gen.dats m) 0 (Cert.KernelIdeal.Gen.V0 m) [Cert.KernelIdeal.Gen.hostOps1] c
    Cert.KernelIdeal.main_v0

/-- Under the precondition, and with the same arguments, the reference computes the kernel's result. -/
theorem result_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) {P : Cert.Attn.Par} (H : Cert.Attn.KerHolds m c P)
    (H' : Cert.Attn.RefHolds V P) (hs : ∀ n l s b, P.score n l s b ≤ 40)
    (h16 : V (Proc.devRef .tc Cert.ReferenceIdeal.main_arg16) = m (c.tc.loc Cert.KernelIdeal.main_arg16)) :
    Cert.Attn.refOut V = result m c := by
  funext i
  obtain ⟨n, o, h, w, rfl⟩ : ∃ n o h w, i = ix4 n o h w := ⟨i 0, i 1, i 2, i 3, by funext k; fin_cases k <;> rfl⟩
  rw [Cert.Attn.ref_out V H', h16]
  exact (Cert.Attn.ker_at m c H hs n o h w).symm

/-- The kernel computes what the reference computes. -/
theorem algebraic : Cert.algebraic_KernelIdeal_ReferenceIdeal_pre_in_range := by
  intro m g m' g' hpre hagree
  refine ⟨result m, ?_, ?_⟩
  · exact (θ_run Cert.KernelIdeal.defs _ _).mono
      (fun r h c => ⟨(h.1 c).2 Cert.KernelIdeal.main_v0 (Pipeline.mem_restRefs_of Cert.KernelIdeal.main_v0 (by decide) (by decide)), h.2 c⟩)
      (θ_run_and (Cert.KernelIdeal.Gen.run_main (F := Ideal) m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    obtain ⟨P, H, hs⟩ := Cert.Attn.pre_real _ rfl (hpre c)
    obtain ⟨h0, h1, h2, h3, h4, h5, h6, h7, h8, h9, h10, h11, h12, h13, h14, h15, h16⟩ := hagree c
    refine result_eq m c (Idealize.ShloMosaic.StableHlo.launchContents m' c) H ?_ hs h16
    have H' := H
    rw [← h0, ← h1, ← h2, ← h3, ← h4, ← h5, ← h6, ← h7, ← h8, ← h9, ← h10, ← h11, ← h12, ← h13, ← h14, ← h15] at H'
    exact H'

theorem claim : Cert.Claim := ⟨Cert.Kernel.Gen.facts, Cert.KernelIdeal.Gen.facts, Cert.ReferenceIdeal.Gen.facts, Cert.Pre_in_range.Gen.facts,
  fun m g _ => Cert.Kernel.Gen.frame m g, fun m g _ => Cert.KernelIdeal.Gen.frame m g, fun m g _ => Cert.KernelIdeal.Gen.frame m g,
  reference_quiescent, fun m g _ => reference_quiescent m g trivial, trivial, algebraic⟩

end Cert.Proof

end
